-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_top_distinct_KernelIdeal [hPre_top_distinct_KernelIdeal : Cert.Pre_top_distinct_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_top_distinct_KernelIdeal.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_top_distinct_ReferenceIdeal [hPre_top_distinct_ReferenceIdeal : Cert.Pre_top_distinct_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_top_distinct_ReferenceIdeal.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_top_distinct_KernelIdeal [hKernelIdeal : Cert.KernelIdeal.Facts] [hPre_top_distinct_KernelIdeal : Cert.Pre_top_distinct_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_top_distinct_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_top_distinct_ReferenceIdeal [hReferenceIdeal : Cert.ReferenceIdeal.Facts] [hPre_top_distinct_ReferenceIdeal : Cert.Pre_top_distinct_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_top_distinct_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_top_distinct_KernelIdeal [hKernelIdeal : Cert.KernelIdeal.Facts] [hReferenceIdeal : Cert.ReferenceIdeal.Facts] [hPre_top_distinct_KernelIdeal : Cert.Pre_top_distinct_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_top_distinct_KernelIdeal m →
    (∀ c : Dev Cert.KernelIdeal.nD,
      m ((c.tc : Thread Cert.KernelIdeal.nD Cert.KernelIdeal.τ).loc Cert.KernelIdeal.main_arg0) = Layout.blockN ⟨2, ![512, 4096]⟩ ⟨2, ![512, 16384]⟩ (Layout.meshBlock [2, 2, 4] ![[], [2]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_top_distinct_KernelIdeal : Cert.Pre_top_distinct_KernelIdeal.Facts) (hPre_top_distinct_ReferenceIdeal : Cert.Pre_top_distinct_ReferenceIdeal.Facts),
    quiescent_Kernel (hKernel := hKernel)
    ∧ quiescent_KernelIdeal (hKernelIdeal := hKernelIdeal)
    ∧ quiescent_KernelIdeal_pre_top_distinct_KernelIdeal (hKernelIdeal := hKernelIdeal) (hPre_top_distinct_KernelIdeal := hPre_top_distinct_KernelIdeal)
    ∧ quiescent_ReferenceIdeal (hReferenceIdeal := hReferenceIdeal)
    ∧ quiescent_ReferenceIdeal_pre_top_distinct_ReferenceIdeal (hReferenceIdeal := hReferenceIdeal) (hPre_top_distinct_ReferenceIdeal := hPre_top_distinct_ReferenceIdeal)
    ∧ preserves_Kernel_KernelIdeal
    ∧ algebraic_KernelIdeal_ReferenceIdeal_pre_top_distinct_KernelIdeal (hKernelIdeal := hKernelIdeal) (hReferenceIdeal := hReferenceIdeal) (hPre_top_distinct_KernelIdeal := hPre_top_distinct_KernelIdeal)
-- ==== Pre_top_distinct_KernelIdeal.lean ====
abbrev S512x4096 : Shape := ⟨2, ![512, 4096]⟩
abbrev S512x16 : Shape := ⟨2, ![512, 16]⟩
abbrev S512x15 : Shape := ⟨2, ![512, 15]⟩

class Facts : Prop where
  slices_S512x4096_S512x16_0_4080 : S512x4096.Slices ![0, 4080] S512x16
  slices_S512x16_S512x15_0_1 : S512x16.Slices ![0, 1] S512x15
  slices_S512x16_S512x15_0_0 : S512x16.Slices ![0, 0] S512x15

variable [Facts]

variable {F : FTy → Type} [FloatOps F]
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S512x4096 .f32) : FVec F S512x4096 .f32 :=
  let v0 : FVec F S512x4096 .f32 := (fun x => Host.sort S512x4096 1 comparator_f32_d1 x) arg0
  v0

def fn {F : FTy → Type} [FloatOps F] (main_arg0 : FVec F S512x4096 .f32) : IVec S512x15 1 :=
  let main_v0 : FVec F S512x4096 .f32 := fn_sort (F := F) main_arg0
  let main_v1 : FVec F S512x16 .f32 := (extractStridedSlice S512x16 ![0, 4080] · slices_S512x4096_S512x16_0_4080) main_v0
  let main_v2 : FVec F S512x15 .f32 := (extractStridedSlice S512x15 ![0, 1] · slices_S512x16_S512x15_0_1) main_v1
  let main_v3 : FVec F S512x15 .f32 := (extractStridedSlice S512x15 ![0, 0] · slices_S512x16_S512x15_0_0) main_v1
  let main_v4 : IVec S512x15 1 := cmpf .ogt main_v2 main_v3
  main_v4
-- ==== Pre_top_distinct_ReferenceIdeal.lean ====
abbrev S512x16384 : Shape := ⟨2, ![512, 16384]⟩
abbrev S512x16 : Shape := ⟨2, ![512, 16]⟩
abbrev S512x15 : Shape := ⟨2, ![512, 15]⟩

class Facts : Prop where
  slices_S512x16384_S512x16_0_16368 : S512x16384.Slices ![0, 16368] S512x16
  slices_S512x16_S512x15_0_1 : S512x16.Slices ![0, 1] S512x15
  slices_S512x16_S512x15_0_0 : S512x16.Slices ![0, 0] S512x15

variable [Facts]

variable {F : FTy → Type} [FloatOps F]
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S512x16384 .f32) : FVec F S512x16384 .f32 :=
  let v0 : FVec F S512x16384 .f32 := (fun x => Host.sort S512x16384 1 comparator_f32_d1 x) arg0
  v0

def fn {F : FTy → Type} [FloatOps F] (main_arg0 : FVec F S512x16384 .f32) : IVec S512x15 1 :=
  let main_v0 : FVec F S512x16384 .f32 := fn_sort (F := F) main_arg0
  let main_v1 : FVec F S512x16 .f32 := (extractStridedSlice S512x16 ![0, 16368] · slices_S512x16384_S512x16_0_16368) main_v0
  let main_v2 : FVec F S512x15 .f32 := (extractStridedSlice S512x15 ![0, 1] · slices_S512x16_S512x15_0_1) main_v1
  let main_v3 : FVec F S512x15 .f32 := (extractStridedSlice S512x15 ![0, 0] · slices_S512x16_S512x15_0_0) main_v1
  let main_v4 : IVec S512x15 1 := cmpf .ogt main_v2 main_v3
  main_v4
-- ==== Kernel.lean ====
abbrev S512x4096 : Shape := ⟨2, ![512, 4096]⟩
abbrev S512x16 : Shape := ⟨2, ![512, 16]⟩
abbrev S128x4096 : Shape := ⟨2, ![128, 4096]⟩
abbrev S128x16 : Shape := ⟨2, ![128, 16]⟩
abbrev S2x128x16 : Shape := ⟨3, ![2, 128, 16]⟩
abbrev S2 : Shape := ⟨1, ![2]⟩
abbrev S3 : Shape := ⟨1, ![3]⟩
abbrev S_ : Shape := ⟨0, ![]⟩
abbrev S128 : Shape := ⟨1, ![128]⟩
abbrev S128x1 : Shape := ⟨2, ![128, 1]⟩
abbrev S1 : Shape := ⟨1, ![1]⟩
abbrev S1x128x16 : Shape := ⟨3, ![1, 128, 16]⟩

abbrev nBuf : Space → Nat
  | .hbm => 2
  | .vmem => 5
  | .smem => 0
  | _ => 0

abbrev bufTy : (tb : Table) → Fin (tcTables nBuf tb) → BufTy
  | .hbm, ⟨0, _⟩ => ⟨S512x4096, .f32⟩
  | .hbm, ⟨1, _⟩ => ⟨S512x16, .f32⟩
  | .local _ .vmem, ⟨0, _⟩ => ⟨S512x4096, .f32⟩
  | .local _ .vmem, ⟨1, _⟩ => ⟨S512x16, .f32⟩
  | .local _ .vmem, ⟨2, _⟩ => ⟨S128x4096, .f32⟩
  | .local _ .vmem, ⟨3, _⟩ => ⟨S128x16, .f32⟩
  | .local _ .vmem, ⟨4, _⟩ => ⟨S2x128x16, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_10 : BitVec 32 := 8#32
  let v19 : BitVec 32 := Scalar.muli v2 c8_i32_10
  let v20 : BitVec 32 := Scalar.addi c0_i32 v19
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_11 : BitVec 32 := 4#32
  let v21 : BitVec 32 := Scalar.muli v5 c4_i32_11
  let v22 : BitVec 32 := Scalar.addi v20 v21
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 32 := Scalar.xori v8 c1_i32_3
  let c1_i32_12 : BitVec 32 := 1#32
  let v23 : BitVec 32 := Scalar.muli v12 c1_i32_12
  let v24 : BitVec 32 := Scalar.addi v22 v23
  v24.toNat
def k0_dev2 (d0 : Dev nD) : Nat :=
  let c0_i32_15 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_14 : BitVec 32 := 8#32
  let v25 : BitVec 32 := Scalar.muli v2 c8_i32_14
  let v26 : BitVec 32 := Scalar.addi c0_i32_15 v25
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_16 : BitVec 32 := 4#32
  let v27 : BitVec 32 := Scalar.muli v5 c4_i32_16
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let v13 : BitVec 32 := Scalar.xori v8 c2_i32_4
  let c1_i32_17 : BitVec 32 := 1#32
  let v29 : BitVec 32 := Scalar.muli v13 c1_i32_17
  let v30 : BitVec 32 := Scalar.addi v28 v29
  v30.toNat
def k0_dev3 (d0 : Dev nD) : Nat :=
  let c0_i32_20 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_19 : BitVec 32 := 8#32
  let v31 : BitVec 32 := Scalar.muli v2 c8_i32_19
  let v32 : BitVec 32 := Scalar.addi c0_i32_20 v31
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_5 : BitVec 32 := 1#32
  let v14 : BitVec 32 := Scalar.xori v5 c1_i32_5
  let c4_i32_21 : BitVec 32 := 4#32
  let v33 : BitVec 32 := Scalar.muli v14 c4_i32_21
  let v34 : BitVec 32 := Scalar.addi v32 v33
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v35 : BitVec 32 := Scalar.muli v8 c1_i32_22
  let v36 : BitVec 32 := Scalar.addi v34 v35
  v36.toNat
def k0_dev4 (d0 : Dev nD) : Nat :=
  let c0_i32_25 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_6 : BitVec 32 := 1#32
  let v15 : BitVec 32 := Scalar.xori v2 c1_i32_6
  let c8_i32_24 : BitVec 32 := 8#32
  let v37 : BitVec 32 := Scalar.muli v15 c8_i32_24
  let v38 : BitVec 32 := Scalar.addi c0_i32_25 v37
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_26 : BitVec 32 := 4#32
  let v39 : BitVec 32 := Scalar.muli v5 c4_i32_26
  let v40 : BitVec 32 := Scalar.addi v38 v39
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_27 : BitVec 32 := 1#32
  let v41 : BitVec 32 := Scalar.muli v8 c1_i32_27
  let v42 : BitVec 32 := Scalar.addi v40 v41
  v42.toNat
def k0_dev5 (d0 : Dev nD) : Nat :=
  let c0_i32_30 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_7 : BitVec 32 := 1#32
  let v16 : BitVec 32 := Scalar.xori v2 c1_i32_7
  let c8_i32_29 : BitVec 32 := 8#32
  let v43 : BitVec 32 := Scalar.muli v16 c8_i32_29
  let v44 : BitVec 32 := Scalar.addi c0_i32_30 v43
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_8 : BitVec 32 := 1#32
  let v17 : BitVec 32 := Scalar.xori v5 c1_i32_8
  let c4_i32_31 : BitVec 32 := 4#32
  let v45 : BitVec 32 := Scalar.muli v17 c4_i32_31
  let v46 : BitVec 32 := Scalar.addi v44 v45
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_32 : BitVec 32 := 1#32
  let v47 : BitVec 32 := Scalar.muli v8 c1_i32_32
  let v48 : BitVec 32 := Scalar.addi v46 v47
  v48.toNat
def k0_off1 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c128_i32 : BitVec 32 := 128#32
  let v11 : BitVec 32 := Scalar.muli v10 c128_i32
  let v49 : Index := Scalar.indexCast v11
  let c0 : Index := 0#32
  ![v49.toNat, 0]
def k0_dev6 (d0 : Dev nD) : Nat :=
  let c0_i32_89 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_88 : BitVec 32 := 8#32
  let v197 : BitVec 32 := Scalar.muli v2 c8_i32_88
  let v198 : BitVec 32 := Scalar.addi c0_i32_89 v197
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_90 : BitVec 32 := 4#32
  let v199 : BitVec 32 := Scalar.muli v5 c4_i32_90
  let v200 : BitVec 32 := Scalar.addi v198 v199
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_84 : BitVec 32 := 1#32
  let v196 : BitVec 32 := Scalar.xori v8 c1_i32_84
  let c1_i32_91 : BitVec 32 := 1#32
  let v201 : BitVec 32 := Scalar.muli v196 c1_i32_91
  let v202 : BitVec 32 := Scalar.addi v200 v201
  v202.toNat
def k0_dev7 (d0 : Dev nD) : Nat :=
  let c0_i32_150 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_149 : BitVec 32 := 8#32
  let v301 : BitVec 32 := Scalar.muli v2 c8_i32_149
  let v302 : BitVec 32 := Scalar.addi c0_i32_150 v301
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_151 : BitVec 32 := 4#32
  let v303 : BitVec 32 := Scalar.muli v5 c4_i32_151
  let v304 : BitVec 32 := Scalar.addi v302 v303
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_145 : BitVec 32 := 2#32
  let v300 : BitVec 32 := Scalar.xori v8 c2_i32_145
  let c1_i32_152 : BitVec 32 := 1#32
  let v305 : BitVec 32 := Scalar.muli v300 c1_i32_152
  let v306 : BitVec 32 := Scalar.addi v304 v305
  v306.toNat
def k0_off2 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c128_i32 : BitVec 32 := 128#32
  let v11 : BitVec 32 := Scalar.muli v10 c128_i32
  let v405 : Index := Scalar.indexCast v11
  let c0_211 : Index := 0#32
  ![v405.toNat, 0]
def k0_off3 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c128_i32 : BitVec 32 := 128#32
  let v11 : BitVec 32 := Scalar.muli v10 c128_i32
  let c0_i32_220 : BitVec 32 := 0#32
  ![v11.toNat, 0]
def k0_dev8 (d0 : Dev nD) : Nat :=
  let c0_i32_217 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_212 : BitVec 32 := 0#32
  let v407 : BitVec 32 := Scalar.xori v2 c0_i32_212
  let c8_i32_216 : BitVec 32 := 8#32
  let v409 : BitVec 32 := Scalar.muli v407 c8_i32_216
  let v410 : BitVec 32 := Scalar.addi c0_i32_217 v409
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_213 : BitVec 32 := 1#32
  let v408 : BitVec 32 := Scalar.xori v5 c1_i32_213
  let c4_i32_218 : BitVec 32 := 4#32
  let v411 : BitVec 32 := Scalar.muli v408 c4_i32_218
  let v412 : BitVec 32 := Scalar.addi v410 v411
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_219 : BitVec 32 := 1#32
  let v413 : BitVec 32 := Scalar.muli v8 c1_i32_219
  let v414 : BitVec 32 := Scalar.addi v412 v413
  v414.toNat
def k0_dev9 (d0 : Dev nD) : Nat :=
  let c0_i32_226 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_221 : BitVec 32 := 1#32
  let v420 : BitVec 32 := Scalar.xori v2 c1_i32_221
  let c8_i32_225 : BitVec 32 := 8#32
  let v422 : BitVec 32 := Scalar.muli v420 c8_i32_225
  let v423 : BitVec 32 := Scalar.addi c0_i32_226 v422
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_222 : BitVec 32 := 0#32
  let v421 : BitVec 32 := Scalar.xori v5 c0_i32_222
  let c4_i32_227 : BitVec 32 := 4#32
  let v424 : BitVec 32 := Scalar.muli v421 c4_i32_227
  let v425 : BitVec 32 := Scalar.addi v423 v424
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_228 : BitVec 32 := 1#32
  let v426 : BitVec 32 := Scalar.muli v8 c1_i32_228
  let v427 : BitVec 32 := Scalar.addi v425 v426
  v427.toNat
def k0_dev10 (d0 : Dev nD) : Nat :=
  let c0_i32_235 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_230 : BitVec 32 := 1#32
  let v433 : BitVec 32 := Scalar.xori v2 c1_i32_230
  let c8_i32_234 : BitVec 32 := 8#32
  let v435 : BitVec 32 := Scalar.muli v433 c8_i32_234
  let v436 : BitVec 32 := Scalar.addi c0_i32_235 v435
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_231 : BitVec 32 := 1#32
  let v434 : BitVec 32 := Scalar.xori v5 c1_i32_231
  let c4_i32_236 : BitVec 32 := 4#32
  let v437 : BitVec 32 := Scalar.muli v434 c4_i32_236
  let v438 : BitVec 32 := Scalar.addi v436 v437
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_237 : BitVec 32 := 1#32
  let v439 : BitVec 32 := Scalar.muli v8 c1_i32_237
  let v440 : BitVec 32 := Scalar.addi v438 v439
  v440.toNat
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512x16384 : Shape := ⟨2, ![512, 16384]⟩
abbrev S512x16 : Shape := ⟨2, ![512, 16]⟩
abbrev S_ : Shape := ⟨0, ![]⟩
abbrev S512x16x1 : Shape := ⟨3, ![512, 16, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S512x16384, .f32⟩
  | .hbm, ⟨1, _⟩ => ⟨S512x16384, .f32⟩
  | .hbm, ⟨2, _⟩ => ⟨S512x16384, .i32⟩
  | .hbm, ⟨3, _⟩ => ⟨S512x16384, .f32⟩
  | .hbm, ⟨4, _⟩ => ⟨S512x16384, .i32⟩
  | .hbm, ⟨5, _⟩ => ⟨S512x16, .i32⟩
  | .hbm, ⟨6, _⟩ => ⟨S_, .i32⟩
  | .hbm, ⟨7, _⟩ => ⟨S512x16, .i32⟩
  | .hbm, ⟨8, _⟩ => ⟨S512x16, .i1⟩
  | .hbm, ⟨9, _⟩ => ⟨S_, .i32⟩
  | .hbm, ⟨10, _⟩ => ⟨S512x16, .i32⟩
  | .hbm, ⟨11, _⟩ => ⟨S512x16, .i32⟩
  | .hbm, ⟨12, _⟩ => ⟨S512x16, .i32⟩
  | .hbm, ⟨13, _⟩ => ⟨S512x16x1, .i32⟩
  | .hbm, ⟨14, _⟩ => ⟨S1, .i32⟩
  | .hbm, ⟨15, _⟩ => ⟨S_, .i32⟩
  | .hbm, ⟨16, _⟩ => ⟨S512x16x1, .i32⟩
  | .hbm, ⟨17, _⟩ => ⟨S512x16x1, .i1⟩
  | .hbm, ⟨18, _⟩ => ⟨S1x1x1, .i32⟩
  | .hbm, ⟨19, _⟩ => ⟨S512x16x1, .i32⟩
  | .hbm, ⟨20, _⟩ => ⟨S512x16x1, .i1⟩
  | .hbm, ⟨21, _⟩ => ⟨S512x16x1, .i1⟩
  | .hbm, ⟨22, _⟩ => ⟨S_, .i1⟩
  | .hbm, ⟨23, _⟩ => ⟨S512x16, .i1⟩
  | .hbm, ⟨24, _⟩ => ⟨S512x16, .f32⟩
  | .hbm, ⟨25, _⟩ => ⟨S_, .f32⟩
  | .hbm, ⟨26, _⟩ => ⟨S512x16, .f32⟩
  | .hbm, ⟨27, _⟩ => ⟨S512x16, .f32⟩
  | _, _ => ⟨S512x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩
abbrev main_v2 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_cst : Ref sig .tc := ⟨.hbm, 25, rfl⟩
abbrev main_call1_v14 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.Values.lean ====
/-
The values the kernel computes, in closed form and for any float values.

`rowMax v` is the column of row maxima of a block, `cut v` the block with every entry equal to its row's maximum
replaced by minus infinity; `pick v` lists, per row, the maxima met by sixteen rounds of this. `fold16 a b` is the
comparison network the kernel runs on its own sixteen candidates and on a neighbour's. The lemmas at the end identify
the printed stretches of the body with these.
-/
module

public import proofs.«01_k».proof.Proof.Gen.KernelIdeal
public import proofs.«01_k».proof.Proof.Gen.KernelIdeal.Skeleton
public import Idealize.ShloMosaic.Lib.Tactic
public import Idealize.ShloMosaic.Lib.Layout
public import Idealize.ShloMosaic.Lib.Pipeline.Value
public import Idealize.ShloMosaic.Lib.ValueLayout
public import Idealize.ShloMosaic.Lib.ValueLayoutCasts

@[expose] public section

noncomputable section

namespace Cert.TopK

open Cert.KernelIdeal Cert.KernelIdeal.Gen
open Idealize.ShloMosaic Idealize.ShloMosaic.ValueIdx Idealize.SL.Sem

variable {F : FTy → Type} [FloatOps F]

/-! ## Picking sixteen candidates out of a block -/

/-- The maximum of each row, as a column. -/
def rowMax (v : FVec F S128x4096 .f32) : FVec F S128x1 .f32 :=
  shapeCast S128x1 (multiReduction .maximumf [1] S128 v 0xFF800000#32 reduces_S128x4096_S128 (.inl rfl) rfl) shapeCasts_S128_S128x1

/-- The block with the entries that equal their row's maximum set to minus infinity. -/
def cut (v : FVec F S128x4096 .f32) : FVec F S128x4096 .f32 :=
  select (cmpf .oeq v (broadcastTo S128x4096 (rowMax v) broadcasts_S128x1_S128x4096))
    (broadcast S128x4096 (Scalar.ofBits .f32 0xFF800000#32 : F .f32)) v

/-- The block after `k` cuts. -/
def cuts (v : FVec F S128x4096 .f32) : ℕ → FVec F S128x4096 .f32
  | 0 => v
  | k + 1 => cut (cuts v k)

/-- Column `k` of the candidates: the row maxima after `k` cuts. -/
def col (v : FVec F S128x4096 .f32) (k : ℕ) : FVec F S128x1 .f32 := rowMax (cuts v k)

/-- The sixteen candidates of every row. -/
def pick (v : FVec F S128x4096 .f32) : FVec F S128x16 .f32 := fun i => col v (i 1).val (ix2 (i 0) (0 : Fin 1))

/-! ## The comparison network -/

/-- Lane `l` of a row takes part as the lower of its pair at distance `d`: bit `d` of `l` is clear. -/
def lower (d : BitVec 32) : IVec S128x16 1 :=
  cmpi .eq (andi (iota .tc S128x16 32 [1] iota_S128x16_d1_w32) (broadcast S128x16 d)) (broadcast S128x16 0#32)

/-- Every lane reads its partner at distance `d` (`d'` the distance the other way round the row). -/
def partner (d d' : BitVec 32) (x : FVec F S128x16 .f32) : FVec F S128x16 .f32 :=
  select (lower d) (dynamicRotate 1 d' none x rotates_S128x16_d1) (dynamicRotate 1 d none x rotates_S128x16_d1)

/-- One compare-exchange layer: the lower lane keeps the larger value, the upper the smaller. -/
def layer (d d' : BitVec 32) (x : FVec F S128x16 .f32) : FVec F S128x16 .f32 :=
  select (lower d) (maximumf x (partner d d' x)) (minimumf x (partner d d' x))

/-- The lanes of a row in reverse order. -/
def turn (x : FVec F S128x16 .f32) : FVec F S128x16 .f32 :=
  partner 1#32 15#32 (partner 2#32 14#32 (partner 4#32 12#32 (partner 8#32 8#32 x)))

/-- The larger sixteen of two descending rows of sixteen, in descending order. -/
def fold16 (a b : FVec F S128x16 .f32) : FVec F S128x16 .f32 :=
  layer 1#32 15#32 (layer 2#32 14#32 (layer 4#32 12#32 (layer 8#32 8#32 (maximumf a (turn b)))))

/-! ## The printed stretches -/

theorem pay1_val (v : FVec F S128x4096 .f32) : k0_pay1 v = cuts v 0 := by
  simp only [k0_pay1, shapeCast_self]
  rfl

theorem pay2_val (v : FVec F S128x4096 .f32) : k0_pay2 v = col v 0 := by
  simp only [k0_pay2, pay1_val, shapeCast_self]
  rfl

theorem pay3_val (v : FVec F S128x4096 .f32) : k0_pay3 v = col v 0 := by
  simp only [k0_pay3, pay2_val, shapeCast_self]

theorem pay4_val (v : FVec F S128x4096 .f32) : k0_pay4 v = cuts v 1 := by
  simp only [k0_pay4, pay1_val, pay2_val, shapeCast_self]
  rfl

theorem pay5_val (v : FVec F S128x4096 .f32) : k0_pay5 v = col v 1 := by
  simp only [k0_pay5, pay4_val, shapeCast_self]
  rfl

theorem pay6_val (v : FVec F S128x4096 .f32) : k0_pay6 (col v 1) = col v 1 := by
  simp only [k0_pay6, shapeCast_self]

theorem pay7_val (v : FVec F S128x4096 .f32) : k0_pay7 (cuts v 1) (col v 1) = cuts v 2 := by
  simp only [k0_pay7, shapeCast_self]
  rfl

theorem pay8_val (v : FVec F S128x4096 .f32) : k0_pay8 (cuts v 1) (col v 1) = col v 2 := by
  simp only [k0_pay8, pay7_val, shapeCast_self]
  rfl

theorem pay9_val (v : FVec F S128x4096 .f32) : k0_pay9 (cuts v 1) (col v 1) = col v 2 := by
  simp only [k0_pay9, pay8_val, shapeCast_self]

theorem pay10_val (v : FVec F S128x4096 .f32) : k0_pay10 (cuts v 1) (col v 1) = cuts v 3 := by
  simp only [k0_pay10, pay7_val, pay8_val, shapeCast_self]
  rfl

theorem pay11_val (v : FVec F S128x4096 .f32) : k0_pay11 (cuts v 1) (col v 1) = col v 3 := by
  simp only [k0_pay11, pay10_val, shapeCast_self]
  rfl

theorem pay12_val (v : FVec F S128x4096 .f32) : k0_pay12 (cuts v 1) (col v 1) = col v 3 := by
  simp only [k0_pay12, pay11_val, shapeCast_self]

theorem pay13_val (v : FVec F S128x4096 .f32) : k0_pay13 (cuts v 1) (col v 1) = cuts v 4 := by
  simp only [k0_pay13, pay10_val, pay11_val, shapeCast_self]
  rfl

theorem pay14_val (v : FVec F S128x4096 .f32) : k0_pay14 (cuts v 1) (col v 1) = col v 4 := by
  simp only [k0_pay14, pay13_val, shapeCast_self]
  rfl

theorem pay15_val (v : FVec F S128x4096 .f32) : k0_pay15 (cuts v 1) (col v 1) = col v 4 := by
  simp only [k0_pay15, pay14_val, shapeCast_self]

theorem pay16_val (v : FVec F S128x4096 .f32) : k0_pay16 (cuts v 1) (col v 1) = cuts v 5 := by
  simp only [k0_pay16, pay13_val, pay14_val, shapeCast_self]
  rfl

theorem pay17_val (v : FVec F S128x4096 .f32) : k0_pay17 (cuts v 1) (col v 1) = col v 5 := by
  simp only [k0_pay17, pay16_val, shapeCast_self]
  rfl

theorem pay18_val (v : FVec F S128x4096 .f32) : k0_pay18 (cuts v 1) (col v 1) = col v 5 := by
  simp only [k0_pay18, pay17_val, shapeCast_self]

theorem pay19_val (v : FVec F S128x4096 .f32) : k0_pay19 (cuts v 5) (col v 5) = cuts v 6 := by
  simp only [k0_pay19, shapeCast_self]
  rfl

theorem pay20_val (v : FVec F S128x4096 .f32) : k0_pay20 (cuts v 5) (col v 5) = col v 6 := by
  simp only [k0_pay20, pay19_val, shapeCast_self]
  rfl

theorem pay21_val (v : FVec F S128x4096 .f32) : k0_pay21 (cuts v 5) (col v 5) = col v 6 := by
  simp only [k0_pay21, pay20_val, shapeCast_self]

theorem pay22_val (v : FVec F S128x4096 .f32) : k0_pay22 (cuts v 5) (col v 5) = cuts v 7 := by
  simp only [k0_pay22, pay19_val, pay20_val, shapeCast_self]
  rfl

theorem pay23_val (v : FVec F S128x4096 .f32) : k0_pay23 (cuts v 5) (col v 5) = col v 7 := by
  simp only [k0_pay23, pay22_val, shapeCast_self]
  rfl

theorem pay24_val (v : FVec F S128x4096 .f32) : k0_pay24 (cuts v 5) (col v 5) = col v 7 := by
  simp only [k0_pay24, pay23_val, shapeCast_self]

theorem pay25_val (v : FVec F S128x4096 .f32) : k0_pay25 (cuts v 5) (col v 5) = cuts v 8 := by
  simp only [k0_pay25, pay22_val, pay23_val, shapeCast_self]
  rfl

theorem pay26_val (v : FVec F S128x4096 .f32) : k0_pay26 (cuts v 8) = col v 8 := by
  simp only [k0_pay26, shapeCast_self]
  rfl

theorem pay27_val (v : FVec F S128x4096 .f32) : k0_pay27 (cuts v 8) = col v 8 := by
  simp only [k0_pay27, pay26_val, shapeCast_self]

theorem pay28_val (v : FVec F S128x4096 .f32) : k0_pay28 (cuts v 8) = cuts v 9 := by
  simp only [k0_pay28, pay26_val, shapeCast_self]
  rfl

theorem pay29_val (v : FVec F S128x4096 .f32) : k0_pay29 (cuts v 8) = col v 9 := by
  simp only [k0_pay29, pay28_val, shapeCast_self]
  rfl

theorem pay30_val (v : FVec F S128x4096 .f32) : k0_pay30 (col v 9) = col v 9 := by
  simp only [k0_pay30, shapeCast_self]

theorem pay31_val (v : FVec F S128x4096 .f32) : k0_pay31 (cuts v 9) (col v 9) = cuts v 10 := by
  simp only [k0_pay31, shapeCast_self]
  rfl

theorem pay32_val (v : FVec F S128x4096 .f32) : k0_pay32 (cuts v 9) (col v 9) = col v 10 := by
  simp only [k0_pay32, pay31_val, shapeCast_self]
  rfl

theorem pay33_val (v : FVec F S128x4096 .f32) : k0_pay33 (cuts v 9) (col v 9) = col v 10 := by
  simp only [k0_pay33, pay32_val, shapeCast_self]

theorem pay34_val (v : FVec F S128x4096 .f32) : k0_pay34 (cuts v 9) (col v 9) = cuts v 11 := by
  simp only [k0_pay34, pay31_val, pay32_val, shapeCast_self]
  rfl

theorem pay35_val (v : FVec F S128x4096 .f32) : k0_pay35 (cuts v 9) (col v 9) = col v 11 := by
  simp only [k0_pay35, pay34_val, shapeCast_self]
  rfl

theorem pay36_val (v : FVec F S128x4096 .f32) : k0_pay36 (cuts v 9) (col v 9) = col v 11 := by
  simp only [k0_pay36, pay35_val, shapeCast_self]

theorem pay37_val (v : FVec F S128x4096 .f32) : k0_pay37 (cuts v 9) (col v 9) = cuts v 12 := by
  simp only [k0_pay37, pay34_val, pay35_val, shapeCast_self]
  rfl

theorem pay38_val (v : FVec F S128x4096 .f32) : k0_pay38 (cuts v 9) (col v 9) = col v 12 := by
  simp only [k0_pay38, pay37_val, shapeCast_self]
  rfl

theorem pay39_val (v : FVec F S128x4096 .f32) : k0_pay39 (cuts v 9) (col v 9) = col v 12 := by
  simp only [k0_pay39, pay38_val, shapeCast_self]

theorem pay40_val (v : FVec F S128x4096 .f32) : k0_pay40 (cuts v 9) (col v 9) = cuts v 13 := by
  simp only [k0_pay40, pay37_val, pay38_val, shapeCast_self]
  rfl

theorem pay41_val (v : FVec F S128x4096 .f32) : k0_pay41 (cuts v 9) (col v 9) = col v 13 := by
  simp only [k0_pay41, pay40_val, shapeCast_self]
  rfl

theorem pay42_val (v : FVec F S128x4096 .f32) : k0_pay42 (cuts v 9) (col v 9) = col v 13 := by
  simp only [k0_pay42, pay41_val, shapeCast_self]

theorem pay43_val (v : FVec F S128x4096 .f32) : k0_pay43 (cuts v 13) (col v 13) = cuts v 14 := by
  simp only [k0_pay43, shapeCast_self]
  rfl

theorem pay44_val (v : FVec F S128x4096 .f32) : k0_pay44 (cuts v 13) (col v 13) = col v 14 := by
  simp only [k0_pay44, pay43_val, shapeCast_self]
  rfl

theorem pay45_val (v : FVec F S128x4096 .f32) : k0_pay45 (cuts v 13) (col v 13) = col v 14 := by
  simp only [k0_pay45, pay44_val, shapeCast_self]

theorem pay46_val (v : FVec F S128x4096 .f32) : k0_pay46 (cuts v 13) (col v 13) = col v 15 := by
  simp only [k0_pay46, pay43_val, pay44_val, shapeCast_self]
  rfl

/-- The first exchange's stretch computes the network on the own candidates and the landed ones. -/
theorem pay55_val (a : Vec F S128x16 .f32) (b : Vec F S1x128x16 .f32) :
    k0_pay55 (iota .tc S128x16 32 [1] iota_S128x16_d1_w32) k0_pay51
      (k0_pay53 a (iota .tc S128x16 32 [1] iota_S128x16_d1_w32) (k0_pay47 b) k0_pay48 k0_pay49)
      (k0_pay54 a (iota .tc S128x16 32 [1] iota_S128x16_d1_w32) (k0_pay47 b) k0_pay48 k0_pay49)
      = fold16 a (shapeCast S128x16 b shapeCasts_S1x128x16_S128x16) := by
  simp only [k0_pay55, k0_pay54, k0_pay53, k0_pay52, k0_pay51, k0_pay50, k0_pay49, k0_pay48, k0_pay47, shapeCast_self]
  rfl

/-- So does the second exchange's. -/
theorem pay60_val (a : Vec F S128x16 .f32) (b : Vec F S1x128x16 .f32) :
    k0_pay60 (k0_pay58 a (iota .tc S128x16 32 [1] iota_S128x16_d1_w32) (k0_pay56 b) k0_pay57) k0_pay59 15#32
      = fold16 a (shapeCast S128x16 b shapeCasts_S1x128x16_S128x16) := by
  simp only [k0_pay60, k0_pay59, k0_pay58, k0_pay57, k0_pay56, shapeCast_self]
  rfl

end Cert.TopK

end
-- ==== Proof.Proto.lean ====
/-
The protocol between the devices, and the contents it moves.

Device `c = 8 x + 4 y + z` has five peers `pr p c`: `p = 0, 1` are the neighbours in `z` at distance one and two (the two
exchanges), `p = 2, 3, 4` the three devices with the same `z` and another block of rows (the final gather). Each `pr p` is
an involution. For every `p` a device sends its candidate buffer once to `pr p c` and receives once from it.

Barrier cell of `c`: five duties of one unit, duty `p` paid by `pr p c`; it hands `c` the place on `pr p c` where `c`'s
transfer `p` lands, and the mark that `pr p c` is at round 0 of its receive cell `p`. Send cell `p` of `c`: one duty, the
share of the candidate buffer that was read comes back. Receive cell `p` of `c`: one duty paid by `pr p c`, the landing
place filled. Levels: barrier 1, receive cells 2, 3, 4, 4, 4, all else 0; a wait is always below all that is still owed.
-/
module

public import proofs.«01_k».proof.Proof.Values
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring.Trips

@[expose] public section

noncomputable section

namespace Cert.TopK

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources -/

abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The state at launch: any memory, counters at zero, any generator registers. -/
def s₀ : MemSt nD τ sig (Elt F) := ⟨m, fun _ => 0, ρ⟩

/-! ## Peers -/

/-- What peer `p` differs by, as a mask on the device number. -/
def mask : Fin 5 → ℕ := ![1, 2, 4, 8, 12]

set_option backward.proofsInPublic true in
/-- The peer `p` of a device. -/
def pr (p : Fin 5) (c : Dev nD) : Dev nD := ⟨(c.val ^^^ mask p) % 16, Nat.mod_lt _ (by decide)⟩

theorem pr_pr (p : Fin 5) (c : Dev nD) : pr p (pr p c) = c := by revert p c; decide +kernel

def prEquiv (p : Fin 5) : Dev nD ≃ Dev nD := ⟨pr p, pr p, pr_pr p, pr_pr p⟩

theorem dev1_eq (c : Dev nD) : (⟨k0_dev1 c, k0_dev1_lt c⟩ : Dev nD) = pr 0 c := by revert c; decide +kernel
theorem dev2_eq (c : Dev nD) : (⟨k0_dev2 c, k0_dev2_lt c⟩ : Dev nD) = pr 1 c := by revert c; decide +kernel
theorem dev3_eq (c : Dev nD) : (⟨k0_dev3 c, k0_dev3_lt c⟩ : Dev nD) = pr 2 c := by revert c; decide +kernel
theorem dev4_eq (c : Dev nD) : (⟨k0_dev4 c, k0_dev4_lt c⟩ : Dev nD) = pr 3 c := by revert c; decide +kernel
theorem dev5_eq (c : Dev nD) : (⟨k0_dev5 c, k0_dev5_lt c⟩ : Dev nD) = pr 4 c := by revert c; decide +kernel
theorem dev6_eq (c : Dev nD) : (⟨k0_dev6 c, k0_dev6_lt c⟩ : Dev nD) = pr 0 c := by revert c; decide +kernel
theorem dev7_eq (c : Dev nD) : (⟨k0_dev7 c, k0_dev7_lt c⟩ : Dev nD) = pr 1 c := by revert c; decide +kernel
theorem dev8_eq (c : Dev nD) : (⟨k0_dev8 c, k0_dev8_lt c⟩ : Dev nD) = pr 2 c := by revert c; decide +kernel
theorem dev9_eq (c : Dev nD) : (⟨k0_dev9 c, k0_dev9_lt c⟩ : Dev nD) = pr 3 c := by revert c; decide +kernel
theorem dev10_eq (c : Dev nD) : (⟨k0_dev10 c, k0_dev10_lt c⟩ : Dev nD) = pr 4 c := by revert c; decide +kernel

/-! ## Buffers and semaphores -/

abbrev xM : Memref sig .tc .vmem S512x4096 .f32 := Memref.whole cc0_stg0_0
abbrev oM : Memref sig .tc .vmem S512x16 .f32 := Memref.whole cc0_stg1_0
abbrev wM : Memref sig .tc .vmem S128x4096 .f32 := Memref.whole cc0_scratch0
abbrev cM : Memref sig .tc .vmem S128x16 .f32 := Memref.whole cc0_scratch1
abbrev zM : Memref sig .tc .vmem S2x128x16 .f32 := Memref.whole cc0_scratch2

/-- The two slots of the exchange buffer. -/
abbrev slot0 : Memref sig .tc .vmem S128x16 .f32 :=
  (zM.slice (Rect.unit (s := S2x128x16) ![0, 0, 0] S1x128x16.size inb_S2x128x16_S1x128x16_0_0_0) (fun _ => rfl)).squeeze S128x16 squeezes_S1x128x16_S128x16
abbrev slot1 : Memref sig .tc .vmem S128x16 .f32 :=
  (zM.slice (Rect.unit (s := S2x128x16) ![1, 0, 0] S1x128x16.size inb_S2x128x16_S1x128x16_1_0_0) (fun _ => rfl)).squeeze S128x16 squeezes_S1x128x16_S128x16
/-- The rows of the result that are device `c`'s to fill. -/
abbrev rows (c : Dev nD) : Memref sig .tc .vmem S128x16 .f32 :=
  oM.slice (Rect.unit (s := S512x16) (k0_off3 c) S128x16.size (k0_off3_inb c)) (fun _ => rfl)

/-- Where device `c`'s transfer `p` lands on its peer. -/
abbrev dstM (c : Dev nD) : Fin 5 → Memref sig .tc .vmem S128x16 .f32
  | 0 => slot0
  | 1 => slot1
  | 2 => rows c
  | 3 => rows c
  | 4 => rows c

abbrev barS : Sem sig := (SemArray.scalar (sig.barrier 0 rfl) : Sems sig S_).sem

abbrev zsem (a : DmaSems sig S2) : Fin 2 → DmaSem sig
  | 0 => ((a.slice (Rect.unit (s := S2) ![0] S1.size inb_S2_S1_0)).squeeze S_ squeezes_S1_S_ : DmaSems sig S_).sem
  | 1 => ((a.slice (Rect.unit (s := S2) ![1] S1.size inb_S2_S1_1)).squeeze S_ squeezes_S1_S_ : DmaSems sig S_).sem
abbrev gsem (a : DmaSems sig S3) : Fin 3 → DmaSem sig
  | 0 => ((a.slice (Rect.unit (s := S3) ![0] S1.size inb_S3_S1_0)).squeeze S_ squeezes_S1_S_ : DmaSems sig S_).sem
  | 1 => ((a.slice (Rect.unit (s := S3) ![1] S1.size inb_S3_S1_1)).squeeze S_ squeezes_S1_S_ : DmaSems sig S_).sem
  | 2 => ((a.slice (Rect.unit (s := S3) ![2] S1.size inb_S3_S1_2)).squeeze S_ squeezes_S1_S_ : DmaSems sig S_).sem

/-- The semaphore transfer `p` completes on at its sender, and at its receiver. -/
abbrev sendS : Fin 5 → DmaSem sig
  | 0 => zsem cc0_scratch3 0
  | 1 => zsem cc0_scratch3 1
  | 2 => gsem cc0_scratch5 0
  | 3 => gsem cc0_scratch5 1
  | 4 => gsem cc0_scratch5 2
abbrev recvS : Fin 5 → DmaSem sig
  | 0 => zsem cc0_scratch4 0
  | 1 => zsem cc0_scratch4 1
  | 2 => gsem cc0_scratch6 0
  | 3 => gsem cc0_scratch6 1
  | 4 => gsem cc0_scratch6 2

abbrev barCell (c : Dev nD) : GSem nD τ sig := ((c : Thread nD τ), .reg barS)
abbrev sendCell (c : Dev nD) (p : Fin 5) : GSem nD τ sig := ((c : Thread nD τ), .dma (sendS p))
abbrev recvCell (c : Dev nD) (p : Fin 5) : GSem nD τ sig := ((c : Thread nD τ), .dma (recvS p))

/-- Which send, or receive, a semaphore belongs to. -/
def sIdx (q : DmaSem sig) : Option (Fin 5) := (List.finRange 5).find? fun p => decide (sendS p = q)
def rIdx (q : DmaSem sig) : Option (Fin 5) := (List.finRange 5).find? fun p => decide (recvS p = q)

theorem sIdx_send (p : Fin 5) : sIdx (sendS p) = some p := by revert p; decide +kernel
theorem sIdx_recv (p : Fin 5) : sIdx (recvS p) = none := by revert p; decide +kernel
theorem rIdx_recv (p : Fin 5) : rIdx (recvS p) = some p := by revert p; decide +kernel
theorem rIdx_send (p : Fin 5) : rIdx (sendS p) = none := by revert p; decide +kernel

/-- A block of candidates' transfer counts this many units. -/
abbrev N : ℕ := (slot0 : Memref sig .tc .vmem S128x16 .f32).view.dmaCredit
theorem N_pos : 0 < N := View.dmaCredit_pos _ (by decide)

/-! ## Contents -/

/-- The block of the argument device `c` holds. -/
def xstg (c : Dev nD) : (cc0_stg0_0 : Ref sig .tc).ty.Contents (Elt F) :=
  (win0_0.blk (0 : Fin 1)).view.read (Elt F) ((s₀ m ρ).mem ((c : Thread nD τ).loc main_arg0))

/-- The rows of it that device `c` works on. -/
def mine (c : Dev nD) : FVec F S128x4096 .f32 :=
  (xM : Memref sig .tc .vmem S512x4096 .f32).view.readAt (Elt F) (Rect.unit (s := S512x4096) (k0_off1 c) S128x4096.size (k0_off1_inb c)).toLoadRect (xstg m ρ c)

/-- The candidates of device `c` after none, one and two exchanges. -/
def cand0 (c : Dev nD) : FVec F S128x16 .f32 := pick (mine m ρ c)
def cand1 (c : Dev nD) : FVec F S128x16 .f32 := fold16 (cand0 m ρ c) (cand0 m ρ (pr 0 c))
def cand2 (c : Dev nD) : FVec F S128x16 .f32 := fold16 (cand1 m ρ c) (cand1 m ρ (pr 1 c))

/-- What transfer `p` of device `c` carries. -/
def sent (c : Dev nD) : Fin 5 → FVec F S128x16 .f32
  | 0 => cand0 m ρ c
  | 1 => cand1 m ρ c
  | 2 => cand2 m ρ c
  | 3 => cand2 m ρ c
  | 4 => cand2 m ρ c

/-- The exchange buffer of `c` once both slots have landed. -/
def zFull (c : Dev nD) : (cc0_scratch2 : Ref sig .tc).ty.Contents (Elt F) := fun i =>
  if (i 0).val = 0 then cand0 m ρ (pr 0 c) (ix2 (i 1) (i 2))
  else cand1 m ρ (pr 1 c) (ix2 (i 1) (i 2))

set_option backward.proofsInPublic true in
/-- The device that fills row `r` of the result on device `c`. -/
def filler (c : Dev nD) (r : Fin 512) : Dev nD := ⟨4 * (r.val / 128) + c.val % 4, by have := r.isLt; show _ < 16; omega⟩

set_option backward.proofsInPublic true in
/-- The result on device `c`. -/
def oFull (c : Dev nD) : (cc0_stg1_0 : Ref sig .tc).ty.Contents (Elt F) := fun i =>
  cand2 m ρ (filler c (i 0)) (ix2 (⟨(i 0).val % 128, Nat.mod_lt _ (by decide)⟩ : Fin 128) (i 1))

/-- The landing place of transfer `p` on device `c`, at contents `f`. -/
def landPts (c : Dev nD) (p : Fin 5) (f : Buf (Elt F) ((dstM (pr p c) p).view.loc (c : Thread nD τ))) : sProp 𝕄 :=
  (dstM (pr p c) p).view.loc (c : Thread nD τ) ↦[(dstM (pr p c) p).view.set]{fullShare} f

/-- What it holds once the transfer is in. -/
def landed (c : Dev nD) : (p : Fin 5) → Buf (Elt F) ((dstM (pr p c) p).view.loc (c : Thread nD τ))
  | 0 => zFull m ρ c
  | 1 => zFull m ρ c
  | 2 => oFull m ρ c
  | 3 => oFull m ρ c
  | 4 => oFull m ρ c

/-- The share of the candidate buffer transfer `p` reads. -/
def shr : Fin 5 → PosShare TreeShare
  | 0 => fullShare
  | 1 => fullShare
  | 2 => fullShare.left
  | 3 => fullShare.right.left
  | 4 => fullShare.right.right

def candPts (c : Dev nD) (q : PosShare TreeShare) (f : Buf (Elt F) ((cM : Memref sig .tc .vmem S128x16 .f32).view.loc (c : Thread nD τ))) : sProp 𝕄 :=
  (cM : Memref sig .tc .vmem S128x16 .f32).view.loc (c : Thread nD τ) ↦[(cM : Memref sig .tc .vmem S128x16 .f32).view.set]{q} f

omit [FloatOps F] in
instance landPts_storable (c : Dev nD) (p : Fin 5) (f) : BI.Storable (upEmb : UEmb _ 𝕄) (landPts (F := F) c p f) := by unfold landPts; infer_instance
omit [FloatOps F] in
instance candPts_storable (c : Dev nD) (q) (f) : BI.Storable (upEmb : UEmb _ 𝕄) (candPts (F := F) c q f) := by unfold candPts; infer_instance

/-! ## The schedule -/

/-- What `pr p c`'s signal hands device `c`. -/
def barPay (c : Dev nD) (p : Fin 5) : sProp 𝕄 := iprop((∃ f, landPts (pr p c) p f) ∗ reached ER (recvCell (pr p c) p) 0)
def recvPay (c : Dev nD) (p : Fin 5) : sProp 𝕄 := landPts c p (landed m ρ c p)
def sendPay (c : Dev nD) (p : Fin 5) : sProp 𝕄 := candPts c (shr p) (sent m ρ c p)

omit [FloatOps F] in
instance barPay_storable (c : Dev nD) (p : Fin 5) : BI.Storable (upEmb : UEmb _ 𝕄) (barPay (F := F) c p) := by unfold barPay; infer_instance
instance recvPay_storable (c : Dev nD) (p : Fin 5) : BI.Storable (upEmb : UEmb _ 𝕄) (recvPay (F := F) m ρ c p) := by unfold recvPay; infer_instance
instance sendPay_storable (c : Dev nD) (p : Fin 5) : BI.Storable (upEmb : UEmb _ 𝕄) (sendPay (F := F) m ρ c p) := by unfold sendPay; infer_instance

/-- Which duties round 0 of a semaphore of the protocol has. -/
def dutiesAt : SemLoc sig → Finset (Fin 5)
  | .reg s => if s = barS then Finset.univ else ∅
  | .dma q => if (sIdx q).isSome ∨ (rIdx q).isSome then {0} else ∅

def payAt (c : Dev nD) (d : Fin 5) : SemLoc sig → sProp 𝕄
  | .reg s => barPay c d
  | .dma q => match sIdx q with
    | some p => sendPay m ρ c p
    | none => match rIdx q with
      | some p => recvPay m ρ c p
      | none => iprop(emp)

instance payAt_storable (c : Dev nD) (d : Fin 5) (g : SemLoc sig) : BI.Storable (upEmb : UEmb _ 𝕄) (payAt (F := F) m ρ c d g) := by
  unfold payAt
  (repeat' split) <;> infer_instance

def Rd : Rounds.Schedule (GSem nD τ sig) (Fin 5) 𝕄 where
  duties g r := if r = 0 ∧ g.1.2 = .tc then dutiesAt g.2 else ∅
  unitless _ := False
  amount g _ _ := match g.2 with | .reg _ => 1 | .dma _ => N
  payload g _ d := payAt m ρ g.1.1 d g.2
  amount_pos g _ _ _ := by
    cases g.2
    · exact Nat.one_pos
    · exact N_pos

instance Rd_storable (g : GSem nD τ sig) (r : ℕ) (d : Fin 5) : BI.Storable (upEmb : UEmb _ 𝕄) ((Rd (F := F) m ρ).payload g r d) :=
  payAt_storable m ρ g.1.1 d g.2

section Sched
variable (c : Dev nD) (p : Fin 5)

theorem duties_bar : (Rd (F := F) m ρ).duties (barCell c) 0 = Finset.univ := by
  dsimp only [Rd]; rw [if_pos ⟨rfl, rfl⟩]; unfold dutiesAt; exact if_pos rfl
theorem duties_send : (Rd (F := F) m ρ).duties (sendCell c p) 0 = {0} := by
  dsimp only [Rd]; rw [if_pos ⟨rfl, rfl⟩]; exact if_pos (.inl (by rw [sIdx_send]; rfl))
theorem duties_recv : (Rd (F := F) m ρ).duties (recvCell c p) 0 = {0} := by
  dsimp only [Rd]; rw [if_pos ⟨rfl, rfl⟩]; exact if_pos (.inr (by rw [rIdx_recv]; rfl))
theorem duties_later (g : GSem nD τ sig) : ∀ r, 1 ≤ r → (Rd (F := F) m ρ).duties g r = ∅ :=
  fun r hr => by dsimp only [Rd]; rw [if_neg fun h => by omega]

theorem expect_bar : (Rd (F := F) m ρ).expect (barCell c) 0 = 5 := by
  unfold Schedule.expect Schedule.amountOf
  rw [duties_bar]; rfl
theorem expect_send : (Rd (F := F) m ρ).expect (sendCell c p) 0 = N := by
  unfold Schedule.expect Schedule.amountOf; rw [duties_send, Finset.sum_singleton]; rfl
theorem expect_recv : (Rd (F := F) m ρ).expect (recvCell c p) 0 = N := by
  unfold Schedule.expect Schedule.amountOf; rw [duties_recv, Finset.sum_singleton]; rfl

theorem payload_bar (d : Fin 5) : (Rd (F := F) m ρ).payload (barCell c) 0 d = barPay c d := rfl
theorem payload_send (d : Fin 5) : (Rd (F := F) m ρ).payload (sendCell c p) 0 d = sendPay m ρ c p := by
  dsimp only [Rd, payAt]; rw [sIdx_send]
theorem payload_recv (d : Fin 5) : (Rd (F := F) m ρ).payload (recvCell c p) 0 d = recvPay m ρ c p := by
  dsimp only [Rd, payAt]; rw [sIdx_recv, rIdx_recv]

theorem rest_bar : bigSep ((Rd (F := F) m ρ).duties (barCell c) 0 \ ∅) (fun d => (Rd (F := F) m ρ).payload (barCell c) 0 d)
    = iprop(barPay c 0 ∗ barPay c 1 ∗ barPay c 2 ∗ barPay c 3 ∗ barPay c 4) := by
  rw [Finset.sdiff_empty, duties_bar, bigSep_univ_eq_bigSepL [0, 1, 2, 3, 4] (by decide) (by decide)]
  rfl
theorem rest_send : bigSep ((Rd (F := F) m ρ).duties (sendCell c p) 0 \ ∅) (fun d => (Rd (F := F) m ρ).payload (sendCell c p) 0 d) = sendPay m ρ c p := by
  rw [Finset.sdiff_empty, duties_send, bigSep_singleton, payload_send]
theorem rest_recv : bigSep ((Rd (F := F) m ρ).duties (recvCell c p) 0 \ ∅) (fun d => (Rd (F := F) m ρ).payload (recvCell c p) 0 d) = recvPay m ρ c p := by
  rw [Finset.sdiff_empty, duties_recv, bigSep_singleton, payload_recv]

end Sched

/-! ## What is owed, and the levels -/

set_option backward.proofsInPublic true in
/-- What `c` still owes its peers' receive cells before its last `n` transfers. -/
def owedR (c : Dev nD) : ℕ → CellTallies nD τ sig Unit
  | 0 => 0
  | n + 1 => owedR c n + tallyAt (recvCell (pr ⟨4 - n, by omega⟩ c) ⟨4 - n, by omega⟩) () N

set_option backward.proofsInPublic true in
/-- And before its last `n` signals. -/
def owedB (c : Dev nD) : ℕ → CellTallies nD τ sig Unit
  | 0 => owedR c 5
  | n + 1 => owedB c n + tallyAt (barCell (pr ⟨4 - n, by omega⟩ c)) () 1

/-- What `c` owes at launch. -/
def O₀ (c : Dev nD) : CellTallies nD τ sig Unit := owedB c 5

def L (g : GSem nD τ sig) : Finset Unit := if g.1.2 = .tc then {()} else ∅

def lvS : SemLoc sig → ℕ
  | .reg _ => 1
  | .dma q => match rIdx q with
    | some p => (![2, 3, 4, 4, 4] : Fin 5 → ℕ) p
    | none => 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (p : Fin 5) (u : Unit) : lv (recvCell c p) u = (![2, 3, 4, 4, 4] : Fin 5 → ℕ) p := by
  unfold lv lvS; dsimp only; rw [rIdx_recv]

theorem tally_pos {g g' : GSem nD τ sig} {u : Unit} {k : ℕ} (h : 0 < tallyAt g' () k g u) : g = g' := by
  rw [tallyAt_apply] at h
  by_contra hn
  rw [if_neg (fun h' => hn h'.1)] at h
  exact Nat.lt_irrefl 0 h

set_option backward.proofsInPublic true in
theorem owedR_pos {c : Dev nD} {g : GSem nD τ sig} {u : Unit} : ∀ n, n ≤ 5 → 0 < owedR c n g u → ∃ p : Fin 5, 5 ≤ p.val + n ∧ g = recvCell (pr p c) p
  | 0, _, h => absurd h (Nat.lt_irrefl 0)
  | n + 1, hn, h => by
    unfold owedR at h
    rw [Pi.add_apply, Finsupp.add_apply] at h
    rcases Nat.add_pos_iff_pos_or_pos.mp h with h | h
    · obtain ⟨p, hp, e⟩ := owedR_pos n (by omega) h
      exact ⟨p, by omega, e⟩
    · exact ⟨⟨4 - n, by omega⟩, by show 5 ≤ 4 - n + (n + 1); omega, tally_pos h⟩

theorem owedB_pos {c : Dev nD} {g : GSem nD τ sig} {u : Unit} : ∀ n, 0 < owedB c n g u → (∃ p : Fin 5, g = recvCell (pr p c) p) ∨ ∃ p : Fin 5, g = barCell (pr p c)
  | 0, h => by
    obtain ⟨p, -, e⟩ := owedR_pos 5 le_rfl h
    exact .inl ⟨p, e⟩
  | n + 1, h => by
    unfold owedB at h
    rw [Pi.add_apply, Finsupp.add_apply] at h
    rcases Nat.add_pos_iff_pos_or_pos.mp h with h | h
    · exact owedB_pos n h
    · exact .inr ⟨_, tally_pos h⟩

omit [FloatOps F] in
/-- A wait below everything owed. -/
theorem mayWait_below (c : Dev nD) (sm : SemLoc sig) (O : CellTallies nD τ sig Unit) (n : ℕ) (hn : lvS sm ≤ n)
    (hO : ∀ g u, 0 < O g u → g.1.2 = .tc ∧ n < lvS g.2) : (levAts L lv : sProp 𝕄) ⊢ MayWait (c : Thread nD τ) sm () O :=
  MayOwe.of_cut (L := L) (lev := lv) n (fun q hq => by rw [Finset.mem_singleton.mp hq, L_tc]; exact Finset.mem_singleton_self _)
    (fun g u hg => by rw [show L g = {()} from if_pos (hO g u hg).1]; exact Finset.mem_singleton_self _)
    (fun q hq => by rw [Finset.mem_singleton.mp hq]; exact hn)
    (fun g u hg => (hO g u hg).2)

theorem lvS_recv (p : Fin 5) : lvS (.dma (recvS p)) = (![2, 3, 4, 4, 4] : Fin 5 → ℕ) p := by
  unfold lvS; dsimp only; rw [rIdx_recv]
theorem lvS_send (p : Fin 5) : lvS (.dma (sendS p)) = 0 := by
  unfold lvS; dsimp only; rw [rIdx_send]

omit [FloatOps F] in
/-- The staging semaphores' waits, before and after the body. -/
theorem mayWait_stage (c : Dev nD) (q : DmaSem sig) (hq : rIdx q = none) (O : CellTallies nD τ sig Unit) (hO : O = O₀ c ∨ O = 0) :
    (levAts L lv : sProp 𝕄) ⊢ MayWait (c : Thread nD τ) (.dma q) () O := by
  rcases hO with rfl | rfl
  · refine mayWait_below c _ _ 0 (by unfold lvS; dsimp only; rw [hq]) fun g u hg => ?_
    rcases owedB_pos 5 hg with ⟨p, rfl⟩ | ⟨p, rfl⟩
    · exact ⟨rfl, by rw [lvS_recv]; clear hg; revert p; decide⟩
    · exact ⟨rfl, Nat.one_pos⟩
  · rw [MayWait_zero]; iintro -; iempintro

omit [FloatOps F] in
/-- A wait at level `l` with the last `n` transfers still to be made. -/
theorem mayWait_recv (c : Dev nD) (sm : SemLoc sig) (n : ℕ) (hn : n ≤ 5)
    (h : ∀ p : Fin 5, 5 ≤ p.val + n → lvS sm < (![2, 3, 4, 4, 4] : Fin 5 → ℕ) p) :
    (levAts L lv : sProp 𝕄) ⊢ MayWait (c : Thread nD τ) sm () (owedR c n) :=
  mayWait_below c sm _ (lvS sm) le_rfl fun g u hg => by
    obtain ⟨p, hp, rfl⟩ := owedR_pos n hn hg
    exact ⟨rfl, by rw [lvS_recv]; exact h p hp⟩

end Cert.TopK

end
-- ==== Proof.Regions.lean ====
/-
The regions of the two shared buffers: the two slots of the exchange buffer, the four blocks of rows of the result. What a
transfer writes there is the landed content, and the regions of one buffer make it up whole.
-/
module

public import proofs.«01_k».proof.Proof.Proto

@[expose] public section

noncomputable section

namespace Cert.TopK

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

attribute [local irreducible] cand0 cand1 cand2

/-! ## The slots -/

theorem squeeze_ix (h : S128x16.numel = S1x128x16.numel) (j : S128x16.Idx) : Shape.reshapeEquiv h j = ix3 (0 : Fin 1) (j 0) (j 1) :=
  (congrArg (Shape.reshapeEquiv h) (eq_ix2 j)).trans (reshapeEquiv_ix2_1ab h (j 0) (j 1))

theorem slot0_emb (j : S128x16.Idx) : (slot0 : Memref sig .tc .vmem S128x16 .f32).view.emb j = ix3 (0 : Fin 2) (j 0) (j 1) := by
  show (Rect.unit (s := S2x128x16) ![0, 0, 0] S1x128x16.size inb_S2x128x16_S1x128x16_0_0_0).emb (Shape.reshapeEquiv _ j) = _
  rw [squeeze_ix]
  funext a
  refine Fin.ext ?_
  fin_cases a
  · rfl
  · show 0 + 1 * (j 0).val = (j 0).val; omega
  · show 0 + 1 * (j 1).val = (j 1).val; omega

theorem slot1_emb (j : S128x16.Idx) : (slot1 : Memref sig .tc .vmem S128x16 .f32).view.emb j = ix3 (1 : Fin 2) (j 0) (j 1) := by
  show (Rect.unit (s := S2x128x16) ![1, 0, 0] S1x128x16.size inb_S2x128x16_S1x128x16_1_0_0).emb (Shape.reshapeEquiv _ j) = _
  rw [squeeze_ix]
  funext a
  refine Fin.ext ?_
  fin_cases a
  · rfl
  · show 0 + 1 * (j 0).val = (j 0).val; omega
  · show 0 + 1 * (j 1).val = (j 1).val; omega

theorem mem_slot0 (i : S2x128x16.Idx) : i ∈ (slot0 : Memref sig .tc .vmem S128x16 .f32).view.set ↔ (i 0).val = 0 := by
  constructor
  · intro h
    obtain ⟨j, -, e⟩ := Finset.mem_map.mp h
    rw [← e, slot0_emb]; rfl
  · intro h
    have : i = (slot0 : Memref sig .tc .vmem S128x16 .f32).view.emb (ix2 (i 1) (i 2)) := by
      rw [slot0_emb, eq_ix3 i]
      exact congrArg (fun a => ix3 a (i 1) (i 2)) (Fin.ext h : i 0 = (0 : Fin 2))
    rw [this]; exact View.emb_mem_set _ _

theorem mem_slot1 (i : S2x128x16.Idx) : i ∈ (slot1 : Memref sig .tc .vmem S128x16 .f32).view.set ↔ (i 0).val = 1 := by
  constructor
  · intro h
    obtain ⟨j, -, e⟩ := Finset.mem_map.mp h
    rw [← e, slot1_emb]; rfl
  · intro h
    have : i = (slot1 : Memref sig .tc .vmem S128x16 .f32).view.emb (ix2 (i 1) (i 2)) := by
      rw [slot1_emb, eq_ix3 i]
      exact congrArg (fun a => ix3 a (i 1) (i 2)) (Fin.ext h : i 0 = (1 : Fin 2))
    rw [this]; exact View.emb_mem_set _ _

theorem slots_disjoint : Disjoint (slot0 : Memref sig .tc .vmem S128x16 .f32).view.set (slot1 : Memref sig .tc .vmem S128x16 .f32).view.set :=
  Finset.disjoint_left.mpr fun i h h' => by
    have h := (mem_slot0 i).mp h
    have h' := (mem_slot1 i).mp h'
    omega

theorem slots_union : (slot0 : Memref sig .tc .vmem S128x16 .f32).view.set ∪ (slot1 : Memref sig .tc .vmem S128x16 .f32).view.set = Finset.univ :=
  Finset.eq_univ_iff_forall.mpr fun i => by
    rw [Finset.mem_union, mem_slot0, mem_slot1]
    have := (i 0).isLt
    have h2 : (i 0).val < 2 := this
    omega

omit [FloatOps F] in
/-- The exchange buffer is its two slots. -/
theorem zbuf_split (c : Dev nD) (f : Buf (Elt F) ((c : Thread nD τ).loc cc0_scratch2)) :
    (((c : Thread nD τ).loc cc0_scratch2) ↦{fullShare} f : sProp 𝕄) ⊣⊢ iprop(landPts c 0 f ∗ landPts c 1 f) := by
  unfold landPts
  have h := pointsTo_union (Ix := Unit) (Name := ℕ) (U := UU) (Lvl := ℕ) (Val := Elt F) (ℓ := (c : Thread nD τ).loc cc0_scratch2) (q := fullShare) (f := f) slots_disjoint
  rw [slots_union] at h
  exact h

/-! ## The blocks of rows -/

theorem rows_emb (c : Dev nD) (j : S128x16.Idx) :
    (((rows c).view.emb j : S512x16.Idx) 0).val = 128 * (c.val / 4) + (j 0).val ∧ ((rows c).view.emb j : S512x16.Idx) 1 = j 1 := by
  have h : k0_off3 c = ![256 * (c.val / 8) + 128 * ((c.val / 4) % 2), 0] := k0_off3_eq c
  have h0 : k0_off3 c 0 = 256 * (c.val / 8) + 128 * ((c.val / 4) % 2) := by rw [h]; rfl
  have h1 : k0_off3 c 1 = 0 := by rw [h]; rfl
  constructor
  · show k0_off3 c 0 + 1 * (j 0).val = _
    rw [h0]; omega
  · refine Fin.ext ?_
    show k0_off3 c 1 + 1 * (j 1).val = _
    rw [h1]; omega

theorem mem_rows (c : Dev nD) (i : S512x16.Idx) : i ∈ (rows c).view.set ↔ (i 0).val / 128 = c.val / 4 := by
  constructor
  · intro h
    obtain ⟨j, -, e⟩ := Finset.mem_map.mp h
    have h0 := (rows_emb c j).1
    rw [e] at h0
    have : (j 0).val < 128 := (j 0).isLt
    omega
  · intro h
    have hi : (i 0).val < 512 := (i 0).isLt
    have : i = (rows c).view.emb (ix2 (⟨(i 0).val % 128, Nat.mod_lt _ (by decide)⟩ : Fin 128) (i 1)) := by
      obtain ⟨h0, h1⟩ := rows_emb c (ix2 (⟨(i 0).val % 128, Nat.mod_lt _ (by decide)⟩ : Fin 128) (i 1))
      funext a
      fin_cases a
      · refine Fin.ext ?_
        refine Eq.trans ?_ h0.symm
        show (i 0).val = 128 * (c.val / 4) + (i 0).val % 128
        omega
      · exact h1.symm
    rw [this]; exact View.emb_mem_set _ _

/-- The four devices whose rows make up the result on `c`. -/
abbrev fillers (c : Dev nD) : Fin 4 → Dev nD
  | 0 => c
  | 1 => pr 2 c
  | 2 => pr 3 c
  | 3 => pr 4 c

theorem fillers_inj (c : Dev nD) (b b' : Fin 4) (h : (fillers c b).val / 4 = (fillers c b').val / 4) : b = b' := by
  revert h; revert b b' c; decide +kernel
theorem fillers_cover (c : Dev nD) (n : Fin 4) : ∃ b : Fin 4, n.val = (fillers c b).val / 4 := by
  revert n c; decide +kernel

/-- The block of rows `b` of the result on `c`. -/
def rowSet (c : Dev nD) (b : Fin 4) : Finset S512x16.Idx := (rows (fillers c b)).view.set

theorem rowSet_disjoint (c : Dev nD) (b b' : Fin 4) (h : b ≠ b') : Disjoint (rowSet c b) (rowSet c b') :=
  Finset.disjoint_left.mpr fun i hi hi' => h (fillers_inj c b b' (((mem_rows _ i).mp hi).symm.trans ((mem_rows _ i).mp hi')))

theorem rowSet_cover (c : Dev nD) : Finset.univ.biUnion (rowSet c) = Finset.univ :=
  Finset.eq_univ_iff_forall.mpr fun i => by
    have hi : (i 0).val < 512 := (i 0).isLt
    obtain ⟨b, hb⟩ := fillers_cover c ⟨(i 0).val / 128, by omega⟩
    exact Finset.mem_biUnion.mpr ⟨b, Finset.mem_univ b, (mem_rows _ i).mpr hb⟩

/-- Its own rows of the result on `c`. -/
def ownPts (c : Dev nD) (f : Buf (Elt F) ((c : Thread nD τ).loc cc0_stg1_0)) : sProp 𝕄 :=
  ((c : Thread nD τ).loc cc0_stg1_0) ↦[(rows c).view.set]{fullShare} f

omit [FloatOps F] in
/-- The result buffer is the own rows and the three landing places. -/
theorem obuf_split (c : Dev nD) (f : Buf (Elt F) ((c : Thread nD τ).loc cc0_stg1_0)) :
    (((c : Thread nD τ).loc cc0_stg1_0) ↦{fullShare} f : sProp 𝕄) = iprop(ownPts c f ∗ landPts c 2 f ∗ landPts c 3 f ∗ landPts c 4 f) := by
  rw [Ring.pointsTo_blocks (ℓ := (c : Thread nD τ).loc cc0_stg1_0) (rowSet c) (rowSet_disjoint c) (rowSet_cover c) f,
    bigSep_univ_eq_bigSepL [(0 : Fin 4), 1, 2, 3] (by decide) (by decide)]
  rfl

/-! ## What lands -/

theorem filler_rows (c : Dev nD) (p : Fin 5) (hp : 2 ≤ p.val) (r : Fin 512) (h : r.val / 128 = c.val / 4) : filler (pr p c) r = c := by
  refine Fin.ext ?_
  show 4 * (r.val / 128) + (pr p c).val % 4 = c.val
  rw [h]
  have : (pr p c).val % 4 = c.val % 4 := by revert hp; clear h; revert p c; decide +kernel
  omega

theorem filler_own (c : Dev nD) (r : Fin 512) (h : r.val / 128 = c.val / 4) : filler c r = c := by
  refine Fin.ext ?_
  show 4 * (r.val / 128) + c.val % 4 = c.val
  rw [h]; omega

/-- Rows written by the device that fills them hold the result there. -/
theorem rows_write (c d : Dev nD) (hd : ∀ r : Fin 512, r.val / 128 = c.val / 4 → filler d r = c) (f : (cc0_stg1_0 : Ref sig .tc).ty.Contents (Elt F)) (i : S512x16.Idx)
    (hi : i ∈ (rows c).view.set) : (rows c).view.write (Elt F) f (cand2 m ρ c) Finset.univ i = oFull m ρ d i := by
  have hr := (mem_rows c i).mp hi
  obtain ⟨j, -, rfl⟩ := Finset.mem_map.mp hi
  obtain ⟨h0, h1⟩ := rows_emb c j
  rw [View.write_emb_of_mem _ _ (Finset.mem_univ j)]
  show cand2 m ρ c j = cand2 m ρ (filler d _) _
  rw [hd _ hr]
  have e : j = (ix2 (⟨(((rows c).view.emb j : S512x16.Idx) 0).val % 128, Nat.mod_lt _ (by decide)⟩ : Fin 128) (((rows c).view.emb j : S512x16.Idx) 1) : S128x16.Idx) := by
    refine (eq_ix2 j).trans (congrArg₂ ix2 (Fin.ext ?_) h1.symm)
    show (j 0).val = (((rows c).view.emb j : S512x16.Idx) 0).val % 128
    have : (j 0).val < 128 := (j 0).isLt
    rw [h0]; omega
  exact congrArg (cand2 m ρ c) e

theorem zFull_slot0 (c : Dev nD) (r : Fin 128) (k : Fin 16) : zFull m ρ c (ix3 (0 : Fin 2) r k) = cand0 m ρ (pr 0 c) (ix2 r k) := if_pos rfl
theorem zFull_slot1 (c : Dev nD) (r : Fin 128) (k : Fin 16) : zFull m ρ c (ix3 (1 : Fin 2) r k) = cand1 m ρ (pr 1 c) (ix2 r k) := if_neg Nat.one_ne_zero

theorem zFull_emb0 (c : Dev nD) (j : S128x16.Idx) : zFull m ρ c ((slot0 : Memref sig .tc .vmem S128x16 .f32).view.emb j) = cand0 m ρ (pr 0 c) j :=
  (congrArg (zFull m ρ c) (slot0_emb j)).trans ((zFull_slot0 m ρ c (j 0) (j 1)).trans (congrArg (cand0 m ρ (pr 0 c)) (eq_ix2 j).symm))
theorem zFull_emb1 (c : Dev nD) (j : S128x16.Idx) : zFull m ρ c ((slot1 : Memref sig .tc .vmem S128x16 .f32).view.emb j) = cand1 m ρ (pr 1 c) j :=
  (congrArg (zFull m ρ c) (slot1_emb j)).trans ((zFull_slot1 m ρ c (j 0) (j 1)).trans (congrArg (cand1 m ρ (pr 1 c)) (eq_ix2 j).symm))

theorem slot0_write (c : Dev nD) (f : (cc0_scratch2 : Ref sig .tc).ty.Contents (Elt F)) (i : S2x128x16.Idx)
    (hi : i ∈ (slot0 : Memref sig .tc .vmem S128x16 .f32).view.set) :
    (slot0 : Memref sig .tc .vmem S128x16 .f32).view.write (Elt F) f (cand0 m ρ c) Finset.univ i = zFull m ρ (pr 0 c) i := by
  obtain ⟨j, -, rfl⟩ := Finset.mem_map.mp hi
  rw [View.write_emb_of_mem _ _ (Finset.mem_univ j)]
  refine Eq.trans ?_ (zFull_emb0 m ρ (pr 0 c) j).symm
  rw [pr_pr]
  exact cast_eq _ _

theorem slot1_write (c : Dev nD) (f : (cc0_scratch2 : Ref sig .tc).ty.Contents (Elt F)) (i : S2x128x16.Idx)
    (hi : i ∈ (slot1 : Memref sig .tc .vmem S128x16 .f32).view.set) :
    (slot1 : Memref sig .tc .vmem S128x16 .f32).view.write (Elt F) f (cand1 m ρ c) Finset.univ i = zFull m ρ (pr 1 c) i := by
  obtain ⟨j, -, rfl⟩ := Finset.mem_map.mp hi
  rw [View.write_emb_of_mem _ _ (Finset.mem_univ j)]
  refine Eq.trans ?_ (zFull_emb1 m ρ (pr 1 c) j).symm
  rw [pr_pr]
  exact cast_eq _ _

theorem rows_landed (c : Dev nD) (p : Fin 5) (hp : 2 ≤ p.val) (f : Buf (Elt F) ((rows c).view.loc (pr p c : Thread nD τ))) :
    ((rows c).view.loc (pr p c : Thread nD τ) ↦[(rows c).view.set]{fullShare} ((rows c).view.write (Elt F) f (cand2 m ρ c) Finset.univ) : sProp 𝕄)
      = ((rows (pr p (pr p c))).view.loc (pr p c : Thread nD τ) ↦[(rows (pr p (pr p c))).view.set]{fullShare} oFull m ρ (pr p c)) := by
  rw [pr_pr]
  exact pointsTo_congr fun i hi => rows_write m ρ c _ (filler_rows c p hp) f i hi

theorem slot0_landed (c : Dev nD) (f : Buf (Elt F) ((slot0 : Memref sig .tc .vmem S128x16 .f32).view.loc (pr 0 c : Thread nD τ))) :
    ((slot0 : Memref sig .tc .vmem S128x16 .f32).view.loc (pr 0 c : Thread nD τ) ↦[(slot0 : Memref sig .tc .vmem S128x16 .f32).view.set]{fullShare}
        ((slot0 : Memref sig .tc .vmem S128x16 .f32).view.write (Elt F) f (cand0 m ρ c) Finset.univ) : sProp 𝕄)
      = ((slot0 : Memref sig .tc .vmem S128x16 .f32).view.loc (pr 0 c : Thread nD τ) ↦[(slot0 : Memref sig .tc .vmem S128x16 .f32).view.set]{fullShare} zFull m ρ (pr 0 c)) :=
  pointsTo_congr fun i hi => slot0_write m ρ c f i hi

theorem slot1_landed (c : Dev nD) (f : Buf (Elt F) ((slot1 : Memref sig .tc .vmem S128x16 .f32).view.loc (pr 1 c : Thread nD τ))) :
    ((slot1 : Memref sig .tc .vmem S128x16 .f32).view.loc (pr 1 c : Thread nD τ) ↦[(slot1 : Memref sig .tc .vmem S128x16 .f32).view.set]{fullShare}
        ((slot1 : Memref sig .tc .vmem S128x16 .f32).view.write (Elt F) f (cand1 m ρ c) Finset.univ) : sProp 𝕄)
      = ((slot1 : Memref sig .tc .vmem S128x16 .f32).view.loc (pr 1 c : Thread nD τ) ↦[(slot1 : Memref sig .tc .vmem S128x16 .f32).view.set]{fullShare} zFull m ρ (pr 1 c)) :=
  pointsTo_congr fun i hi => slot1_write m ρ c f i hi

/-- What transfer `p` of `c` leaves on its peer is that peer's receive payload. -/
theorem landed_in (c : Dev nD) (p : Fin 5) (f : Buf (Elt F) ((dstM c p).view.loc (pr p c : Thread nD τ))) :
    ((dstM c p).view.loc (pr p c : Thread nD τ) ↦[(dstM c p).view.set]{fullShare}
        ((dstM c p).view.write (Elt F) f ((cM : Memref sig .tc .vmem S128x16 .f32).view.read (Elt F) (sent m ρ c p)) Finset.univ) : sProp 𝕄)
      ⊢ recvPay m ρ (pr p c) p := by
  unfold recvPay landPts
  refine Entails.of_eq ?_
  match p with
  | 0 => exact slot0_landed m ρ c f
  | 1 => exact slot1_landed m ρ c f
  | 2 => exact rows_landed m ρ c 2 (by decide) f
  | 3 => exact rows_landed m ρ c 3 (by decide) f
  | 4 => exact rows_landed m ρ c 4 (by decide) f

end Cert.TopK

end
-- ==== Proof.Steps.lean ====
/-
One rule per kind of effect of the kernel's body, stated over what the protocol says of it: a signal of the handshake, a
transfer, a wait for what was sent, a wait for what arrives, and the filling of the candidate buffer column by column.
-/
module

public import proofs.«01_k».proof.Proof.Regions
public import proofs.«01_k».proof.Proof.Gen.KernelIdeal.Points

@[expose] public section

set_option maxRecDepth 8000

noncomputable section

namespace Cert.TopK

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The cells, and what every device knows of them -/

/-- A device's semaphores of the protocol: the barrier (`none`), where its transfers complete, where its peers' do. -/
abbrev KI : Type := Option (Bool × Fin 5)

abbrev csem : KI → SemLoc sig
  | none => .reg barS
  | some (false, p) => .dma (sendS p)
  | some (true, p) => .dma (recvS p)
abbrev kcell (ck : Dev nD × KI) : GSem nD τ sig := ((ck.1 : Thread nD τ), csem ck.2)

/-- Every cell's invariant, that every cell is at round 0 or later, and the levels. -/
def env (K : Dev nD × KI → ℕ) : sProp 𝕄 :=
  iprop((bigSep Finset.univ fun ck : Dev nD × KI => cellInv ER (Rd m ρ) (K ck) (kcell ck))
    ∗ (bigSep Finset.univ fun ck : Dev nD × KI => reached ER (kcell ck) 0) ∗ levAts L lv)

instance env_persistent (K : Dev nD × KI → ℕ) : BI.Persistent (env m ρ K) := by unfold env; infer_instance

theorem all_inv (K : Dev nD × KI → ℕ) (ck : Dev nD × KI) :
    (bigSep Finset.univ fun ck : Dev nD × KI => (cellInv ER (Rd m ρ) (K ck) (kcell ck) : sProp 𝕄)) ⊢ cellInv ER (Rd m ρ) (K ck) (kcell ck) :=
  bigSep_elim (Finset.mem_univ ck)
omit [FloatOps F] in
theorem all_reached (ck : Dev nD × KI) :
    (bigSep Finset.univ fun ck : Dev nD × KI => (reached ER (kcell ck) 0 : sProp 𝕄)) ⊢ reached ER (kcell ck) 0 :=
  bigSep_elim (Finset.mem_univ ck)

/-- A cell whose one round is over gives its semaphore back at zero. -/
theorem done_with (κ : ℕ) (g : GSem nD τ sig) : iprop(cellInv ER (Rd m ρ) κ g ∗ atPos ER g 1 ∅ 0) ⊢ (|={Set.univ}=> semVal g 0 : sProp 𝕄) :=
  Rounds.cell_close ER (Rd m ρ) (Set.mem_univ κ) (fun h => h) (duties_later m ρ g)

theorem env_inv (K : Dev nD × KI → ℕ) (ck : Dev nD × KI) : env m ρ K ⊢ cellInv ER (Rd m ρ) (K ck) (kcell ck) := by
  unfold env
  iintro ⟨H, -⟩
  iapply (all_inv m ρ K ck); iexact H
theorem env_reached (K : Dev nD × KI → ℕ) (ck : Dev nD × KI) : env m ρ K ⊢ reached ER (kcell ck) 0 := by
  unfold env
  iintro ⟨-, H, -⟩
  iapply (all_reached (F := F) ck); iexact H
theorem env_levs (K : Dev nD × KI → ℕ) : env m ρ K ⊢ levAts L lv := by
  unfold env
  iintro ⟨-, -, H⟩
  iexact H

abbrev 𝒱₀ : Variants := Variants.none

abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What device `c` owes, whatever it has waited for. -/
def owing (c : Dev nD) (O : CellTallies nD τ sig Unit) : sProp 𝕄 := iprop(∃ W, owes (c : Thread nD τ) O W)

/-! ## Signals, transfers, waits -/

section Steps
variable (K : Dev nD × KI → ℕ) (c : Dev nD)

/-- Signal `p`: the landing place of transfer `p` goes to the peer. -/
theorem step_signal (p : Fin 5) (n : Dev nD) (hn : n = pr p c) (O : CellTallies nD τ sig Unit) {α : Type} {Q : α → sProp 𝕄}
    {k : PUnit → Prog (TpuEff nD τ sig (Elt F) Λ₀ .tc) α} :
    iprop(env m ρ K ∗ owing c (O + tallyAt (barCell (pr p c)) () 1) ∗ dutyTok ER (barCell (pr p c)) 0 p ∗ ∃ f, landPts c p f)
      ⊢ iprop((owing c O -∗ WP c (k ⟨⟩) Q) -∗ WP c (.op (.semSignal (n : Thread nD τ) barS 1) k) Q) := by
  subst hn
  unfold owing
  iintro ⟨#HE, ⟨%W, HO⟩, Ht, Hl⟩ Hk
  iapply (Rounds.wp_signal 𝒱₀ ER (Rd m ρ) (c : Thread nD τ) none (dst := (pr p c : Thread nD τ)) (κ := K (pr p c, none)) (d := p)
      (by rw [duties_bar]; exact Finset.mem_univ _) rfl () O rfl) $$ [HO Ht Hl]
  · isplitr; · iapply (env_inv m ρ K (pr p c, none)); iexact HE
    isplitl [HO]; · iexact HO
    isplitl [Ht]; · iexact Ht
    isplitl [Hl]
    · rw [payload_bar]; unfold barPay; rw [pr_pr]
      isplitl [Hl]; · iexact Hl
      iapply (env_reached m ρ K (c, some (true, p))); iexact HE
    · iapply (env_reached m ρ K (pr p c, none)); iexact HE
  iintro HO
  iapply Hk; iexists W; iexact HO

omit [FloatOps F] in
theorem land_there (p : Fin 5) : (iprop(∃ f, landPts (pr p c) p f) : sProp 𝕄)
    ⊢ iprop(∃ f : Buf (Elt F) ((dstM c p).view.loc (pr p c : Thread nD τ)), (dstM c p).view.loc (pr p c : Thread nD τ) ↦[(dstM c p).view.set]{fullShare} f) := by
  unfold landPts; rw [pr_pr]

/-- Transfer `p`. -/
theorem step_send (p : Fin 5) (n : Dev nD) (hn : n = pr p c) (dst : Memref sig .tc .vmem S128x16 .f32) (hd : dst = dstM c p)
    (sS rS : DmaSem sig) (hs : sS = sendS p) (hr : rS = recvS p) (O : CellTallies nD τ sig Unit)
    {hsc : (dst : Memref sig (Dev.tc n : Thread nD τ).2.kind .vmem S128x16 .f32).view.ref.isScScratch = false}
    {hsrc : (cM : Memref sig .tc .vmem S128x16 .f32).view.WordExact} {hdst : dst.view.WordExact}
    {hsem : DmaTarget.Typed .vmem (.dma rS) (.remote (Dev.tc n : Thread nD τ) dst (.dma sS) hsc)}
    {α : Type} {Q : α → sProp 𝕄} {k : PUnit → Prog (TpuEff nD τ sig (Elt F) Λ₀ .tc) α} :
    iprop(env m ρ K ∗ owing c (O + tallyAt (recvCell (pr p c) p) () N) ∗ candPts c (shr p) (sent m ρ c p) ∗ (∃ f, landPts (pr p c) p f)
        ∗ dutyTok ER (sendCell c p) 0 0 ∗ dutyTok ER (recvCell (pr p c) p) 0 0)
      ⊢ iprop(((owing c O ∗ cred (tallyAt (sendCell c p) () N)) -∗ WP c (k ⟨⟩) Q)
          -∗ WP c (.op (.enqueueDma cM (.remote (Dev.tc n : Thread nD τ) dst (.dma sS) hsc) (.dma rS) hsrc hdst hsem) k) Q) := by
  subst hn hd hs hr
  have hN : (dstM c p).view.amount (.dma (recvS p)) = N := by fin_cases p <;> rfl
  unfold owing
  iintro ⟨#HE, ⟨%W, HO⟩, Hc, Hl, Hts, Htr⟩ Hk
  ihave Hl' := (land_there (F := F) c p) $$ Hl
  icases Hl' with ⟨%fn, Hl⟩
  iapply (Rounds.wp_send_pointsTo 𝒱₀ ER (Rd m ρ) (c : Thread nD τ) none (κ₁ := K (c, some (false, p))) (κ₂ := K (pr p c, some (true, p)))
    (r₁ := 0) (r₂ := 0) (d₁ := 0) (d₂ := 0) (fd := fn) (q := shr p) (fs := sent m ρ c p)
    (by rw [duties_send]; exact Finset.mem_singleton_self _) (by rw [duties_recv]; exact Finset.mem_singleton_self _)
    () () N hN rfl rfl O rfl (W := W)
    (by rw [payload_send]; exact BI.Entails.refl _)
    (by rw [payload_recv]; exact landed_in m ρ c p fn)) $$ [HO Hc Hl Hts Htr]
  · isplitr; · iapply (env_inv m ρ K (c, some (false, p))); iexact HE
    isplitr; · iapply (env_inv m ρ K (pr p c, some (true, p))); iexact HE
    isplitl [Hc]; · unfold candPts; iexact Hc
    isplitl [Hl]; · iexact Hl
    isplitl [HO]; · iexact HO
    isplitl [Hts]; · iexact Hts
    isplitr; · iapply (env_reached m ρ K (c, some (false, p))); iexact HE
    isplitl [Htr]; · iexact Htr
    iapply (env_reached m ρ K (pr p c, some (true, p))); iexact HE
  iintro ⟨Hcr, HO⟩
  iapply Hk
  isplitl [HO]; · iexists W; iexact HO
  iexact Hcr

/-- The wait for transfer `p` to have been read: its share of the candidates is back, and the semaphore is done with. -/
theorem step_wait_send (p : Fin 5) (sS : DmaSem sig) (hs : sS = sendS p) (O : CellTallies nD τ sig Unit)
    (hO : (levAts L lv : sProp 𝕄) ⊢ MayWait (c : Thread nD τ) (.dma (sendS p)) () O)
    {src dst : Memref sig .tc .vmem S128x16 .f32} (hN : dst.view.dmaCredit = N) {hsrc : src.view.WordExact} {hdst : dst.view.WordExact}
    {α : Type} {Q : α → sProp 𝕄} {k : PUnit → Prog (TpuEff nD τ sig (Elt F) Λ₀ .tc) α} :
    iprop(env m ρ K ∗ owing c O ∗ cred (tallyAt (sendCell c p) () N) ∗ atPos ER (sendCell c p) 0 ∅ 0)
      ⊢ iprop(((owing c O ∗ candPts c (shr p) (sent m ρ c p) ∗ semVal (sendCell c p) 0) -∗ WP c (k ⟨⟩) Q)
          -∗ WP c (.op (.waitDma2 sS src dst hsrc hdst) k) Q) := by
  subst hs
  unfold owing
  iintro ⟨#HE, ⟨%W, HO⟩, Hcr, Hat⟩ Hk
  iapply (Rounds.wp_wait_rest_token 𝒱₀ ER (Rd m ρ) (c : Thread nD τ) none (κ := K (c, some (false, p)))
      (wpE_waitDma2_eq 𝒱₀ (c : Thread nD τ) none Set.univ) (Set.mem_univ _) () (O := O) (W := W) (R := 0) (m := 0) (T := ∅)
      (by rw [Nat.zero_add, expect_send])) $$ [Hcr HO Hat]
  · isplitr; · iapply (env_inv m ρ K (c, some (false, p))); iexact HE
    isplitl [Hcr]; · rw [hN]; iexact Hcr
    isplitl [HO]; · iexact HO
    isplitr; · iapply ((env_levs m ρ K).trans hO); iexact HE
    iexact Hat
  iintro ⟨HO, Hat, -, Hpay⟩
  imod (done_with m ρ (K (c, some (false, p))) (sendCell c p)) $$ [Hat] with Hz
  · isplitr; · iapply (env_inv m ρ K (c, some (false, p))); iexact HE
    iexact Hat
  iapply Hk
  isplitl [HO]; · iexists _; iexact HO
  isplitl [Hpay]; · iapply (Entails.of_eq (show _ = candPts c (shr p) (sent m ρ c p) from rest_send m ρ c p)); iexact Hpay
  iexact Hz

/-- The wait for the peer's transfer `p`: its landing place holds what it carried. -/
theorem step_wait_recv (p : Fin 5) (rS : DmaSem sig) (hr : rS = recvS p) (O : CellTallies nD τ sig Unit)
    (hO : (levAts L lv : sProp 𝕄) ⊢ MayWait (c : Thread nD τ) (.dma (recvS p)) () O)
    {src dst : Memref sig .tc .vmem S128x16 .f32} (hN : dst.view.dmaCredit = N) {hsrc : src.view.WordExact} {hdst : dst.view.WordExact}
    {α : Type} {Q : α → sProp 𝕄} {k : PUnit → Prog (TpuEff nD τ sig (Elt F) Λ₀ .tc) α} :
    iprop(env m ρ K ∗ owing c O ∗ cred (tallyAt (recvCell c p) () N) ∗ atPos ER (recvCell c p) 0 ∅ 0)
      ⊢ iprop(((owing c O ∗ landPts c p (landed m ρ c p) ∗ semVal (recvCell c p) 0) -∗ WP c (k ⟨⟩) Q)
          -∗ WP c (.op (.waitDma2 rS src dst hsrc hdst) k) Q) := by
  subst hr
  unfold owing
  iintro ⟨#HE, ⟨%W, HO⟩, Hcr, Hat⟩ Hk
  iapply (Rounds.wp_wait_rest_token 𝒱₀ ER (Rd m ρ) (c : Thread nD τ) none (κ := K (c, some (true, p)))
      (wpE_waitDma2_eq 𝒱₀ (c : Thread nD τ) none Set.univ) (Set.mem_univ _) () (O := O) (W := W) (R := 0) (m := 0) (T := ∅)
      (by rw [Nat.zero_add, expect_recv])) $$ [Hcr HO Hat]
  · isplitr; · iapply (env_inv m ρ K (c, some (true, p))); iexact HE
    isplitl [Hcr]; · rw [hN]; iexact Hcr
    isplitl [HO]; · iexact HO
    isplitr; · iapply ((env_levs m ρ K).trans hO); iexact HE
    iexact Hat
  iintro ⟨HO, Hat, -, Hpay⟩
  imod (done_with m ρ (K (c, some (true, p))) (recvCell c p)) $$ [Hat] with Hz
  · isplitr; · iapply (env_inv m ρ K (c, some (true, p))); iexact HE
    iexact Hat
  iapply Hk
  isplitl [HO]; · iexists _; iexact HO
  isplitl [Hpay]
  · iapply (show recvPay m ρ c p ⊢ landPts c p (landed m ρ c p) from BI.Entails.refl _)
    iapply (Entails.of_eq (rest_recv m ρ c p)); iexact Hpay
  iexact Hz

/-- The wait for the five signals: the peers' landing places come with them. -/
theorem step_wait_bar {α : Type} {Q : α → sProp 𝕄} {k : PUnit → Prog (TpuEff nD τ sig (Elt F) Λ₀ .tc) α} :
    iprop(env m ρ K ∗ owing c (owedR c 5) ∗ cred (tallyAt (barCell c) () 5) ∗ atPos ER (barCell c) 0 ∅ 0)
      ⊢ iprop(((owing c (owedR c 5) ∗ ((∃ f, landPts (pr 0 c) 0 f) ∗ (∃ f, landPts (pr 1 c) 1 f) ∗ (∃ f, landPts (pr 2 c) 2 f)
              ∗ (∃ f, landPts (pr 3 c) 3 f) ∗ ∃ f, landPts (pr 4 c) 4 f) ∗ semVal (barCell c) 0) -∗ WP c (k ⟨⟩) Q)
          -∗ WP c (.op (.semWait barS 5) k) Q) := by
  unfold owing
  iintro ⟨#HE, ⟨%W, HO⟩, Hcr, Hat⟩ Hk
  iapply (Rounds.wp_wait_rest_token 𝒱₀ ER (Rd m ρ) (c : Thread nD τ) none (κ := K (c, none))
      (wpE_semWait_eq 𝒱₀ (c : Thread nD τ) none Set.univ) (Set.mem_univ _) () (O := owedR c 5) (W := W) (R := 0) (m := 0) (T := ∅)
      (by rw [expect_bar])) $$ [Hcr HO Hat]
  · isplitr; · iapply (env_inv m ρ K (c, none)); iexact HE
    isplitl [Hcr]; · iexact Hcr
    isplitl [HO]; · iexact HO
    isplitr
    · iapply ((env_levs m ρ K).trans (mayWait_recv (F := F) c (.reg barS) 5 le_rfl (by decide))); iexact HE
    iexact Hat
  iintro ⟨HO, Hat, -, Hpay⟩
  imod (done_with m ρ (K (c, none)) (barCell c)) $$ [Hat] with Hz
  · isplitr; · iapply (env_inv m ρ K (c, none)); iexact HE
    iexact Hat
  ihave Hp := (Entails.of_eq (rest_bar m ρ c)) $$ Hpay
  unfold barPay
  icases Hp with ⟨⟨H0, -⟩, ⟨H1, -⟩, ⟨H2, -⟩, ⟨H3, -⟩, ⟨H4, -⟩⟩
  iapply Hk
  isplitl [HO]; · iexists _; iexact HO
  isplitr [Hz]
  · isplitl [H0]; · iexact H0
    isplitl [H1]; · iexact H1
    isplitl [H2]; · iexact H2
    isplitl [H3]; · iexact H3
    iexact H4
  iexact Hz

end Steps

/-! ## The candidate buffer, filled column by column -/

section Fill
variable (c : Dev nD) (v : FVec F S128x4096 .f32)

/-- The first `n` columns hold the first `n` candidates of every row. -/
def filled (n : ℕ) : sProp 𝕄 :=
  iprop(∃ f : Buf (Elt F) ((c : Thread nD τ).loc cc0_scratch1), ⌜∀ i : S128x16.Idx, (i 1).val < n → f i = pick v i⌝ ∗ (((c : Thread nD τ).loc cc0_scratch1) ↦{fullShare} f))

theorem step_col_load (n : ℕ) {r : LoadRect S128x16} {hl : (cM : Memref sig .tc .vmem S128x16 .f32).view.LoadsAt r} {α : Type} {Q : α → sProp 𝕄}
    {k : (r.shape.Idx → Elt F .f32) → Prog (TpuEff nD τ sig (Elt F) Λ₀ .tc) α} :
    filled c v n ⊢ iprop((∀ x, filled c v n -∗ WP c (k x) Q) -∗ WP c (.op (.load cM r hl) k) Q) := by
  unfold filled
  iintro ⟨%f, %hf, H⟩ Hk
  iapply (wp_load 𝒱₀ (c : Thread nD τ) none Set.univ (m := cM) (Finset.subset_univ _)) $$ H; iintro H
  iapply Hk
  iexists f
  isplitr; · ipureintro; exact hf
  iexact H

omit [FloatOps F] in
theorem mem_col (n : ℕ) (hb : ∀ i, (![0, n] : Fin 2 → ℕ) i + S128x1.size i ≤ S128x16.size i) (i : S128x16.Idx) :
    i ∈ ((cM : Memref sig .tc .vmem S128x16 .f32).access (Rect.unit (s := S128x16) ![0, n] S128x1.size hb)).set ↔ (i 1).val = n := by
  rw [View.set_slice_whole, Rect.mem_set_unit]
  constructor
  · intro h
    have h1 := h 1
    have h2 : n ≤ (i 1).val ∧ (i 1).val < n + 1 := h1
    omega
  · intro h a
    have h0 : (i 0).val < 128 := (i 0).isLt
    fin_cases a
    · show 0 ≤ (i 0).val ∧ (i 0).val < 0 + 128; omega
    · show n ≤ (i 1).val ∧ (i 1).val < n + 1; omega

theorem col_write (n : ℕ) (hb : ∀ i, (![0, n] : Fin 2 → ℕ) i + S128x1.size i ≤ S128x16.size i) (f : (cc0_scratch1 : Ref sig .tc).ty.Contents (Elt F))
    (hf : ∀ i : S128x16.Idx, (i 1).val < n → f i = pick v i) (i : S128x16.Idx) (hi : (i 1).val < n + 1) :
    ((cM : Memref sig .tc .vmem S128x16 .f32).access (Rect.unit (s := S128x16) ![0, n] S128x1.size hb)).write (Elt F) f (col v n) Finset.univ i = pick v i := by
  by_cases h : (i 1).val = n
  · obtain ⟨j, -, e⟩ := Finset.mem_map.mp ((mem_col n hb i).mpr h)
    have e0 : (((cM : Memref sig .tc .vmem S128x16 .f32).access (Rect.unit (s := S128x16) ![0, n] S128x1.size hb)).emb j : S128x16.Idx) 0 = i 0 := congrFun e 0
    rw [← e, View.write_emb_of_mem _ _ (Finset.mem_univ j), e]
    refine (cast_eq _ _).trans ?_
    unfold pick
    rw [h]
    refine congrArg (col v n) ?_
    refine (eq_ix2 j).trans (congrArg₂ ix2 (Fin.ext ?_) (Fin.ext ?_))
    · have e1 := congrArg Fin.val e0
      have e2 : 0 + 1 * (j 0).val = (i 0).val := e1
      omega
    · have : (j 1).val < 1 := (j 1).isLt
      show (j 1).val = 0
      omega
  · rw [View.write_of_not_mem]
    · exact hf i (by omega)
    · intro hc
      exact h ((mem_col n hb i).mp (Finset.mem_of_subset (View.setOn_subset_set _ _) hc))

theorem step_col_store (n : ℕ) (hb : ∀ i, (![0, n] : Fin 2 → ℕ) i + S128x1.size i ≤ S128x16.size i) (w : FVec F S128x1 .f32) (hw : w = col v n)
    {hx : ((cM : Memref sig .tc .vmem S128x16 .f32).access (Rect.unit (s := S128x16) ![0, n] S128x1.size hb)).Stores Finset.univ}
    {hm : (Finset.univ : Finset S128x1.Idx) = Finset.univ ∨ ∀ a, (Rect.unit (s := S128x16) ![0, n] S128x1.size hb).stride a = 1} {α : Type} {Q : α → sProp 𝕄}
    {k : PUnit → Prog (TpuEff nD τ sig (Elt F) Λ₀ .tc) α} :
    filled c v n ⊢ iprop((filled c v (n + 1) -∗ WP c (k ⟨⟩) Q)
      -∗ WP c (.op (.store cM (Rect.unit (s := S128x16) ![0, n] S128x1.size hb) w Finset.univ hx hm) k) Q) := by
  subst hw
  unfold filled
  iintro ⟨%f, %hf, H⟩ Hk
  iapply (wp_store 𝒱₀ (c : Thread nD τ) none Set.univ (m := cM) (r := Rect.unit (s := S128x16) ![0, n] S128x1.size hb) (Mk := Finset.univ) (Finset.subset_univ _)) $$ H; iintro H
  iapply Hk
  iexists ((cM : Memref sig .tc .vmem S128x16 .f32).access (Rect.unit (s := S128x16) ![0, n] S128x1.size hb)).write (Elt F) f (col v n) Finset.univ
  isplitr; · ipureintro; exact col_write v n hb f hf
  iexact H

theorem filled_all : filled c v 16 ⊢ (((c : Thread nD τ).loc cc0_scratch1) ↦{fullShare} (pick v : Buf (Elt F) ((c : Thread nD τ).loc cc0_scratch1)) : sProp 𝕄) := by
  unfold filled
  iintro ⟨%f, %hf, H⟩
  have : f = pick v := funext fun i => hf i (i 1).isLt
  rw [← this]
  iexact H

theorem filled_none (f : Buf (Elt F) ((c : Thread nD τ).loc cc0_scratch1)) : (((c : Thread nD τ).loc cc0_scratch1) ↦{fullShare} f : sProp 𝕄) ⊢ filled c v 0 := by
  unfold filled
  iintro H
  iexists f
  isplitr; · ipureintro; exact fun i h => absurd h (Nat.not_lt_zero _)
  iexact H

end Fill

end Cert.TopK

end
-- ==== Proof.Extract.lean ====
/-
The first half of the kernel's body: the handshake, then the sixteen candidates of every row taken out one by one, and the
first transfer.
-/
module

public import proofs.«01_k».proof.Proof.Steps

@[expose] public section

set_option maxRecDepth 8000

noncomputable section

namespace Cert.TopK

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

attribute [local irreducible] cand0 cand1 cand2

abbrev wX : (Memref.whole cc0_stg0_0 : Memref sig .tc .vmem S512x4096 .f32).IsWhole := Memref.isWhole_whole _
abbrev wO : (Memref.whole cc0_stg1_0 : Memref sig .tc .vmem S512x16 .f32).IsWhole := Memref.isWhole_whole _
abbrev wW : (Memref.whole cc0_scratch0 : Memref sig .tc .vmem S128x4096 .f32).IsWhole := Memref.isWhole_whole _
abbrev wC : (Memref.whole cc0_scratch1 : Memref sig .tc .vmem S128x16 .f32).IsWhole := Memref.isWhole_whole _
abbrev wZ : (Memref.whole cc0_scratch2 : Memref sig .tc .vmem S2x128x16 .f32).IsWhole := Memref.isWhole_whole _

theorem off00 : (![0, 0] : Fin 2 → Nat) = fun _ => 0 := funext fun a => by fin_cases a <;> rfl

/-- A buffer of device `c` whole. -/
abbrev buf (c : Dev nD) (b : Ref sig .tc) (f : Buf (Elt F) ((c : Thread nD τ).loc b)) : sProp 𝕄 := ((c : Thread nD τ).loc b) ↦{fullShare} f

omit [FloatOps F] in
theorem candPts_whole (c : Dev nD) (q : PosShare TreeShare) (f : Buf (Elt F) ((c : Thread nD τ).loc cc0_scratch1)) :
    candPts (F := F) c q f = (((c : Thread nD τ).loc cc0_scratch1) ↦{q} f) := by
  have h : cM.view.set = Finset.univ := View.set_whole _
  unfold candPts; exact congrArg (fun S => (((c : Thread nD τ).loc cc0_scratch1) ↦[S]{q} f : sProp 𝕄)) h

theorem done_ret (c : Dev nD) {α : Type} (a : α) {Q : α → sProp 𝕄} : Q a ⊢ WP (F := F) c (.ret a) Q := by
  unfold WP; rw [wp_ret]; iintro H; imodintro; iexact H

section Whole
variable (c : Dev nD)

/-- The spare rows read whole. -/
theorem step_work_load (f : FVec F S128x4096 .f32) (h : ∀ a, (![0, 0] : Fin 2 → ℕ) a + S128x4096.size a ≤ S128x4096.size a)
    {hl : (wM : Memref sig .tc .vmem S128x4096 .f32).view.LoadsAt (Rect.unit (s := S128x4096) ![0, 0] S128x4096.size h).toLoadRect}
    {α : Type} {k : ((Rect.unit (s := S128x4096) ![0, 0] S128x4096.size h).toLoadRect.shape.Idx → Elt F .f32) → Prog (TpuEff nD τ sig (Elt F) Λ₀ .tc) α} {Q : α → sProp 𝕄} :
    buf c cc0_scratch0 f ⊢ iprop((buf c cc0_scratch0 f -∗ WP c (k f) Q)
      -∗ WP c (.op (.load wM (Rect.unit (s := S128x4096) ![0, 0] S128x4096.size h).toLoadRect hl) k) Q) := by
  iintro H Hk
  iapply (wp_load 𝒱₀ (c : Thread nD τ) none Set.univ (m := wM) (Finset.subset_univ _)) $$ H; iintro H
  have e : (wM : Memref sig .tc .vmem S128x4096 .f32).view.readAt (Elt F) (Rect.unit (s := S128x4096) ![0, 0] S128x4096.size h).toLoadRect f = f :=
    Memref.readAt_unit_zero (Elt F) cc0_scratch0 off00 h f
  rw [e]
  iapply Hk; iexact H

/-- The spare rows overwritten whole. -/
theorem step_work_store (f w w' : FVec F S128x4096 .f32) (h : ∀ a, (![0, 0] : Fin 2 → ℕ) a + S128x4096.size a ≤ S128x4096.size a) (hw : w = w')
    {hx : ((wM : Memref sig .tc .vmem S128x4096 .f32).access (Rect.unit (s := S128x4096) ![0, 0] S128x4096.size h)).Stores Finset.univ}
    {hm : (Finset.univ : Finset S128x4096.Idx) = Finset.univ ∨ ∀ a, (Rect.unit (s := S128x4096) ![0, 0] S128x4096.size h).stride a = 1}
    {α : Type} {k : PUnit → Prog (TpuEff nD τ sig (Elt F) Λ₀ .tc) α} {Q : α → sProp 𝕄} :
    buf c cc0_scratch0 f ⊢ iprop((buf c cc0_scratch0 w' -∗ WP c (k ⟨⟩) Q)
      -∗ WP c (.op (.store wM (Rect.unit (s := S128x4096) ![0, 0] S128x4096.size h) w Finset.univ hx hm) k) Q) := by
  subst hw
  iintro H Hk
  iapply (wp_store 𝒱₀ (c : Thread nD τ) none Set.univ (m := wM) (r := Rect.unit (s := S128x4096) ![0, 0] S128x4096.size h) (Mk := Finset.univ) (Finset.subset_univ _)) $$ H; iintro H
  have e : ((wM : Memref sig .tc .vmem S128x4096 .f32).access (Rect.unit (s := S128x4096) ![0, 0] S128x4096.size h)).write (Elt F) f w Finset.univ = w :=
    Memref.write_access_unit_zero_univ (Elt F) cc0_scratch0 off00 h f w
  rw [e]
  iapply Hk; iexact H

/-- The candidates read whole. -/
theorem step_cand_load (f : FVec F S128x16 .f32) (h : ∀ a, (![0, 0] : Fin 2 → ℕ) a + S128x16.size a ≤ S128x16.size a)
    {hl : (cM : Memref sig .tc .vmem S128x16 .f32).view.LoadsAt (Rect.unit (s := S128x16) ![0, 0] S128x16.size h).toLoadRect}
    {α : Type} {k : ((Rect.unit (s := S128x16) ![0, 0] S128x16.size h).toLoadRect.shape.Idx → Elt F .f32) → Prog (TpuEff nD τ sig (Elt F) Λ₀ .tc) α} {Q : α → sProp 𝕄} :
    buf c cc0_scratch1 f ⊢ iprop((buf c cc0_scratch1 f -∗ WP c (k f) Q)
      -∗ WP c (.op (.load cM (Rect.unit (s := S128x16) ![0, 0] S128x16.size h).toLoadRect hl) k) Q) := by
  iintro H Hk
  iapply (wp_load 𝒱₀ (c : Thread nD τ) none Set.univ (m := cM) (Finset.subset_univ _)) $$ H; iintro H
  have e : (cM : Memref sig .tc .vmem S128x16 .f32).view.readAt (Elt F) (Rect.unit (s := S128x16) ![0, 0] S128x16.size h).toLoadRect f = f :=
    Memref.readAt_unit_zero (Elt F) cc0_scratch1 off00 h f
  rw [e]
  iapply Hk; iexact H

/-- The candidates overwritten whole. -/
theorem step_cand_store (f w w' : FVec F S128x16 .f32) (h : ∀ a, (![0, 0] : Fin 2 → ℕ) a + S128x16.size a ≤ S128x16.size a) (hw : w = w')
    {hx : ((cM : Memref sig .tc .vmem S128x16 .f32).access (Rect.unit (s := S128x16) ![0, 0] S128x16.size h)).Stores Finset.univ}
    {hm : (Finset.univ : Finset S128x16.Idx) = Finset.univ ∨ ∀ a, (Rect.unit (s := S128x16) ![0, 0] S128x16.size h).stride a = 1}
    {α : Type} {k : PUnit → Prog (TpuEff nD τ sig (Elt F) Λ₀ .tc) α} {Q : α → sProp 𝕄} :
    buf c cc0_scratch1 f ⊢ iprop((buf c cc0_scratch1 w' -∗ WP c (k ⟨⟩) Q)
      -∗ WP c (.op (.store cM (Rect.unit (s := S128x16) ![0, 0] S128x16.size h) w Finset.univ hx hm) k) Q) := by
  subst hw
  iintro H Hk
  iapply (wp_store 𝒱₀ (c : Thread nD τ) none Set.univ (m := cM) (r := Rect.unit (s := S128x16) ![0, 0] S128x16.size h) (Mk := Finset.univ) (Finset.subset_univ _)) $$ H; iintro H
  have e : ((cM : Memref sig .tc .vmem S128x16 .f32).access (Rect.unit (s := S128x16) ![0, 0] S128x16.size h)).write (Elt F) f w Finset.univ = w :=
    Memref.write_access_unit_zero_univ (Elt F) cc0_scratch1 off00 h f w
  rw [e]
  iapply Hk; iexact H

end Whole

section Parts
variable (K : Dev nD × KI → ℕ) (c : Dev nD)

/-- Two signals. -/
theorem part1_spec {Q : _ → sProp 𝕄} :
    iprop(env m ρ K ∗ owing c (owedB c 5) ∗ (dutyTok ER (barCell (pr 0 c)) 0 0 ∗ ∃ f, landPts c 0 f) ∗ (dutyTok ER (barCell (pr 1 c)) 0 1 ∗ ∃ f, landPts c 1 f))
      ⊢ iprop((∀ w2 w5 w8 w11 w14 w15 w16 w17 w19, owing c (owedB c 3) -∗ Q ⟨c, w2, w5, w8, w11, w14, w15, w16, w17, SemArray.scalar (sig.barrier 0 rfl), w19⟩)
        -∗ WP (F := F) c (k0_part1 xM wX oM wO wM wW cM wC zM wZ cc0_scratch3 cc0_scratch4 cc0_scratch5 cc0_scratch6) Q) := by
  rw [k0_part1_eq_skeleton]; unfold k0_part1_skel
  simp only [semSignalWord, Prog.lift, Prog.bind_op, Prog.bind_ret, Prog.pure_eq_ret, wp_deviceId]
  iintro ⟨#HE, HO, ⟨Ht0, Hl0⟩, Ht1, Hl1⟩ Hk
  iapply (step_signal m ρ K c 0 _ (dev1_eq c) (owedB c 4)) $$ [HO Ht0 Hl0]
  · isplitr; · iexact HE
    isplitl [HO]; · iexact HO
    isplitl [Ht0]; · iexact Ht0
    iexact Hl0
  iintro HO
  iapply (step_signal m ρ K c 1 _ (dev2_eq c) (owedB c 3)) $$ [HO Ht1 Hl1]
  · isplitr; · iexact HE
    isplitl [HO]; · iexact HO
    isplitl [Ht1]; · iexact Ht1
    iexact Hl1
  iintro HO
  iapply done_ret
  iapply Hk
  iexact HO

/-- Three signals, the wait for five, the block of rows and its first candidates. -/
theorem part2_spec (w2 w5 w8 w11 w14 w15 w16 w17 w19 : BitVec 32) (f : Buf (Elt F) ((c : Thread nD τ).loc cc0_scratch1)) {Q : _ → sProp 𝕄} :
    iprop(env m ρ K ∗ owing c (owedB c 3) ∗ (dutyTok ER (barCell (pr 2 c)) 0 2 ∗ ∃ f, landPts c 2 f) ∗ (dutyTok ER (barCell (pr 3 c)) 0 3 ∗ ∃ f, landPts c 3 f)
        ∗ (dutyTok ER (barCell (pr 4 c)) 0 4 ∗ ∃ f, landPts c 4 f) ∗ cred (tallyAt (barCell c) () 5) ∗ atPos ER (barCell c) 0 ∅ 0
        ∗ buf c cc0_stg0_0 (xstg m ρ c) ∗ buf c cc0_scratch1 f)
      ⊢ iprop(((owing c (owedR c 5) ∗ ((∃ f, landPts (pr 0 c) 0 f) ∗ (∃ f, landPts (pr 1 c) 1 f) ∗ (∃ f, landPts (pr 2 c) 2 f)
              ∗ (∃ f, landPts (pr 3 c) 3 f) ∗ ∃ f, landPts (pr 4 c) 4 f) ∗ semVal (barCell c) 0 ∗ buf c cc0_stg0_0 (xstg m ρ c) ∗ filled c (mine m ρ c) 1)
            -∗ Q ⟨cuts (mine m ρ c) 1, col (mine m ρ c) 1⟩)
        -∗ WP (F := F) c (k0_part2 xM wX oM wO wM wW cM wC zM wZ cc0_scratch3 cc0_scratch4 cc0_scratch5 cc0_scratch6
            c w2 w5 w8 w11 w14 w15 w16 w17 (SemArray.scalar (sig.barrier 0 rfl)) w19) Q) := by
  rw [k0_part2_eq_skeleton]; unfold k0_part2_skel
  simp only [semSignalWord, semWaitWord, Prog.lift, Prog.bind_op, Prog.bind_ret, Prog.pure_eq_ret]
  have hv : (xM : Memref sig .tc .vmem S512x4096 .f32).view.readAt (Elt F) (Rect.unit (s := S512x4096) (k0_off1 c) S128x4096.size (k0_off1_inb c)).toLoadRect (xstg m ρ c)
    = mine m ρ c := rfl
  iintro ⟨#HE, HO, ⟨Ht2, Hl2⟩, ⟨Ht3, Hl3⟩, ⟨Ht4, Hl4⟩, Hcr, Hat, Hx, Hc⟩ Hk
  iapply (step_signal m ρ K c 2 _ (dev3_eq c) (owedB c 2)) $$ [HO Ht2 Hl2]
  · isplitr; · iexact HE
    isplitl [HO]; · iexact HO
    isplitl [Ht2]; · iexact Ht2
    iexact Hl2
  iintro HO
  iapply (step_signal m ρ K c 3 _ (dev4_eq c) (owedB c 1)) $$ [HO Ht3 Hl3]
  · isplitr; · iexact HE
    isplitl [HO]; · iexact HO
    isplitl [Ht3]; · iexact Ht3
    iexact Hl3
  iintro HO
  iapply (step_signal m ρ K c 4 _ (dev5_eq c) (owedR c 5)) $$ [HO Ht4 Hl4]
  · isplitr; · iexact HE
    isplitl [HO]; · iexact HO
    isplitl [Ht4]; · iexact Ht4
    iexact Hl4
  iintro HO
  iapply (step_wait_bar m ρ K c) $$ [HO Hcr Hat]
  · isplitr; · iexact HE
    isplitl [HO]; · iexact HO
    isplitl [Hcr]; · iexact Hcr
    iexact Hat
  iintro ⟨HO, Hl, Hz⟩
  iapply (wp_load 𝒱₀ (c : Thread nD τ) none Set.univ (m := xM) (Finset.subset_univ _)) $$ Hx; iintro Hx
  ihave Hf := (filled_none c (mine m ρ c) f) $$ Hc
  iapply (step_col_load c (mine m ρ c) 0) $$ Hf
  iintro %x Hf
  iapply (step_col_store c (mine m ρ c) 0 _ _ (pay3_val (mine m ρ c))) $$ Hf
  iintro Hf
  rw [hv, pay4_val, pay5_val]
  iapply done_ret
  iapply Hk
  isplitl [HO]; · iexact HO
  isplitl [Hl]; · iexact Hl
  isplitl [Hz]; · iexact Hz
  isplitl [Hx]; · iexact Hx
  iexact Hf

/-- The candidates in columns 1 to 5. -/
theorem part3_spec (v : FVec F S128x4096 .f32) {Q : _ → sProp 𝕄} :
    filled c v 1 ⊢ iprop((filled c v 6 -∗ Q ⟨cuts v 5, col v 5⟩)
        -∗ WP (F := F) c (k0_part3 xM wX oM wO wM wW cM wC zM wZ cc0_scratch3 cc0_scratch4 cc0_scratch5 cc0_scratch6 (cuts v 1) (col v 1)) Q) := by
  rw [k0_part3_eq_skeleton]; unfold k0_part3_skel
  simp only [Prog.lift, Prog.bind_op, Prog.bind_ret, Prog.pure_eq_ret]
  iintro Hf Hk
  iapply (step_col_load c v 1) $$ Hf; iintro %x1 Hf
  iapply (step_col_store c v 1 _ _ (pay6_val v)) $$ Hf; iintro Hf
  iapply (step_col_load c v 2) $$ Hf; iintro %x2 Hf
  iapply (step_col_store c v 2 _ _ (pay9_val v)) $$ Hf; iintro Hf
  iapply (step_col_load c v 3) $$ Hf; iintro %x3 Hf
  iapply (step_col_store c v 3 _ _ (pay12_val v)) $$ Hf; iintro Hf
  iapply (step_col_load c v 4) $$ Hf; iintro %x4 Hf
  iapply (step_col_store c v 4 _ _ (pay15_val v)) $$ Hf; iintro Hf
  iapply (step_col_load c v 5) $$ Hf; iintro %x5 Hf
  iapply (step_col_store c v 5 _ _ (pay18_val v)) $$ Hf; iintro Hf
  rw [pay16_val, pay17_val]; iapply done_ret
  iapply Hk; iexact Hf

/-- Columns 6 to 8, what is left of the rows kept aside between. -/
theorem part4_spec (v : FVec F S128x4096 .f32) (f : Buf (Elt F) ((c : Thread nD τ).loc cc0_scratch0)) {Q : _ → sProp 𝕄} :
    iprop(filled c v 6 ∗ buf c cc0_scratch0 f) ⊢ iprop(((filled c v 9 ∗ ∃ g, buf c cc0_scratch0 g) -∗ Q ⟨cuts v 9, col v 9⟩)
        -∗ WP (F := F) c (k0_part4 xM wX oM wO wM wW cM wC zM wZ cc0_scratch3 cc0_scratch4 cc0_scratch5 cc0_scratch6 (cuts v 5) (col v 5)) Q) := by
  rw [k0_part4_eq_skeleton]; unfold k0_part4_skel
  simp only [Prog.lift, Prog.bind_op, Prog.bind_ret, Prog.pure_eq_ret]
  iintro ⟨Hf, Hw⟩ Hk
  iapply (step_col_load c v 6) $$ Hf; iintro %x1 Hf
  iapply (step_col_store c v 6 _ _ (pay21_val v)) $$ Hf; iintro Hf
  iapply (step_col_load c v 7) $$ Hf; iintro %x2 Hf
  iapply (step_col_store c v 7 _ _ (pay24_val v)) $$ Hf; iintro Hf
  iapply (step_work_load c f) $$ Hw; iintro Hw
  iapply (step_work_store c f _ _ _ (pay25_val v)) $$ Hw; iintro Hw
  iapply (step_work_load c _) $$ Hw; iintro Hw
  iapply (step_col_load c v 8) $$ Hf; iintro %x3 Hf
  iapply (step_col_store c v 8 _ _ (pay27_val v)) $$ Hf; iintro Hf
  rw [pay28_val, pay29_val]; iapply done_ret
  iapply Hk
  isplitl [Hf]; · iexact Hf
  iexists _; iexact Hw

/-- Columns 9 to 12. -/
theorem part5_spec (v : FVec F S128x4096 .f32) {Q : _ → sProp 𝕄} :
    filled c v 9 ⊢ iprop((filled c v 13 -∗ Q ⟨cuts v 13, col v 13, col v 13⟩)
        -∗ WP (F := F) c (k0_part5 xM wX oM wO wM wW cM wC zM wZ cc0_scratch3 cc0_scratch4 cc0_scratch5 cc0_scratch6 (cuts v 9) (col v 9)) Q) := by
  rw [k0_part5_eq_skeleton]; unfold k0_part5_skel
  simp only [Prog.lift, Prog.bind_op, Prog.bind_ret, Prog.pure_eq_ret]
  iintro Hf Hk
  iapply (step_col_load c v 9) $$ Hf; iintro %x1 Hf
  iapply (step_col_store c v 9 _ _ (pay30_val v)) $$ Hf; iintro Hf
  iapply (step_col_load c v 10) $$ Hf; iintro %x2 Hf
  iapply (step_col_store c v 10 _ _ (pay33_val v)) $$ Hf; iintro Hf
  iapply (step_col_load c v 11) $$ Hf; iintro %x3 Hf
  iapply (step_col_store c v 11 _ _ (pay36_val v)) $$ Hf; iintro Hf
  iapply (step_col_load c v 12) $$ Hf; iintro %x4 Hf
  iapply (step_col_store c v 12 _ _ (pay39_val v)) $$ Hf; iintro Hf
  iapply (step_col_load c v 13) $$ Hf; iintro %x5 Hf
  rw [pay40_val, pay41_val, pay42_val]; iapply done_ret
  iapply Hk; iexact Hf

/-- Columns 13 to 15, and the candidates sent to the first peer. -/
theorem part6_spec (w2 w5 w8 : BitVec 32) {Q : _ → sProp 𝕄} :
    iprop(env m ρ K ∗ owing c (owedR c 5) ∗ filled c (mine m ρ c) 13 ∗ (∃ f, landPts (pr 0 c) 0 f) ∗ dutyTok ER (sendCell c 0) 0 0 ∗ dutyTok ER (recvCell (pr 0 c) 0) 0 0)
      ⊢ iprop((∀ w, (owing c (owedR c 4) ∗ cred (tallyAt (sendCell c 0) () N)) -∗ Q w)
        -∗ WP (F := F) c (k0_part6 xM wX oM wO wM wW cM wC zM wZ cc0_scratch3 cc0_scratch4 cc0_scratch5 cc0_scratch6
            c w2 w5 w8 (cuts (mine m ρ c) 13) (col (mine m ρ c) 13) (col (mine m ρ c) 13)) Q) := by
  rw [k0_part6_eq_skeleton]; unfold k0_part6_skel
  simp only [Prog.lift, Prog.bind_op, Prog.bind_ret, Prog.pure_eq_ret]
  iintro ⟨#HE, HO, Hf, Hl, Hts, Htr⟩ Hk
  iapply (step_col_store c (mine m ρ c) 13 _ _ rfl) $$ Hf; iintro Hf
  iapply (step_col_load c (mine m ρ c) 14) $$ Hf; iintro %x1 Hf
  iapply (step_col_store c (mine m ρ c) 14 _ _ (pay45_val (mine m ρ c))) $$ Hf; iintro Hf
  iapply (step_col_load c (mine m ρ c) 15) $$ Hf; iintro %x2 Hf
  iapply (step_col_store c (mine m ρ c) 15 _ _ (pay46_val (mine m ρ c))) $$ Hf; iintro Hf
  ihave Hc := (filled_all c (mine m ρ c)) $$ Hf
  iapply (step_send m ρ K c 0 _ (dev6_eq c) _ rfl _ _ rfl rfl (owedR c 4)) $$ [HO Hc Hl Hts Htr]
  · isplitr; · iexact HE
    isplitl [HO]; · iexact HO
    isplitl [Hc]
    · rw [candPts_whole, show sent m ρ c 0 = pick (mine m ρ c) from by unfold sent cand0; rfl]
      iexact Hc
    isplitl [Hl]; · iexact Hl
    isplitl [Hts]; · iexact Hts
    iexact Htr
  iintro H
  iapply done_ret
  iapply Hk; iexact H

end Parts

end Cert.TopK

end
-- ==== Proof.Exchange.lean ====
/-
The second half of the kernel's body: two exchanges, each followed by a merge, then the merged candidates stored and sent to
the three devices that hold the same columns.
-/
module

public import proofs.«01_k».proof.Proof.Extract

@[expose] public section

set_option maxRecDepth 8000

noncomputable section

namespace Cert.TopK

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

attribute [local irreducible] cand0 cand1 cand2

/-! ## What is read of the exchange buffer -/

abbrev rect0 : Rect S2x128x16 := Rect.unit (s := S2x128x16) ![0, 0, 0] S1x128x16.size inb_S2x128x16_S1x128x16_0_0_0
abbrev rect1 : Rect S2x128x16 := Rect.unit (s := S2x128x16) ![1, 0, 0] S1x128x16.size inb_S2x128x16_S1x128x16_1_0_0

def slab0 (c : Dev nD) : FVec F S1x128x16 .f32 := ((zM : Memref sig .tc .vmem S2x128x16 .f32).access rect0).read (Elt F) (zFull m ρ c)
def slab1 (c : Dev nD) : FVec F S1x128x16 .f32 := ((zM : Memref sig .tc .vmem S2x128x16 .f32).access rect1).read (Elt F) (zFull m ρ c)

theorem slab0_val (c : Dev nD) : shapeCast S128x16 (slab0 m ρ c) shapeCasts_S1x128x16_S128x16 = cand0 m ρ (pr 0 c) :=
  funext fun j => Eq.trans (show _ = zFull m ρ c ((slot0 : Memref sig .tc .vmem S128x16 .f32).view.emb j) from rfl) (zFull_emb0 m ρ c j)
theorem slab1_val (c : Dev nD) : shapeCast S128x16 (slab1 m ρ c) shapeCasts_S1x128x16_S128x16 = cand1 m ρ (pr 1 c) :=
  funext fun j => Eq.trans (show _ = zFull m ρ c ((slot1 : Memref sig .tc .vmem S128x16 .f32).view.emb j) from rfl) (zFull_emb1 m ρ c j)

theorem access0_set : ((zM : Memref sig .tc .vmem S2x128x16 .f32).access rect0).set ⊆ (slot0 : Memref sig .tc .vmem S128x16 .f32).view.set := by
  intro i hi
  rw [View.set_slice_whole, Rect.mem_set_unit] at hi
  obtain ⟨h, h'⟩ := hi 0
  have h : 0 ≤ (i 0).val := h
  have h' : (i 0).val < 0 + 1 := h'
  exact (mem_slot0 _).mpr (by omega)
theorem access1_set : ((zM : Memref sig .tc .vmem S2x128x16 .f32).access rect1).set ⊆ (slot1 : Memref sig .tc .vmem S128x16 .f32).view.set := by
  intro i hi
  rw [View.set_slice_whole, Rect.mem_set_unit] at hi
  obtain ⟨h, h'⟩ := hi 0
  have h : 1 ≤ (i 0).val := h
  have h' : (i 0).val < 1 + 1 := h'
  exact (mem_slot1 _).mpr (by omega)

section Slots
variable (c : Dev nD)

theorem step_slot0_load {hl : (zM : Memref sig .tc .vmem S2x128x16 .f32).view.LoadsAt rect0.toLoadRect}
    {α : Type} {k : (rect0.toLoadRect.shape.Idx → Elt F .f32) → Prog (TpuEff nD τ sig (Elt F) Λ₀ .tc) α} {Q : α → sProp 𝕄} :
    landPts c 0 (landed m ρ c 0) ⊢ iprop((landPts c 0 (landed m ρ c 0) -∗ WP c (k (slab0 m ρ c)) Q)
      -∗ WP c (.op (.load zM rect0.toLoadRect hl) k) Q) := by
  unfold landPts slab0
  exact wp_load_rect 𝒱₀ (c : Thread nD τ) none Set.univ (m := zM) (r := rect0) access0_set

theorem step_slot1_load {hl : (zM : Memref sig .tc .vmem S2x128x16 .f32).view.LoadsAt rect1.toLoadRect}
    {α : Type} {k : (rect1.toLoadRect.shape.Idx → Elt F .f32) → Prog (TpuEff nD τ sig (Elt F) Λ₀ .tc) α} {Q : α → sProp 𝕄} :
    landPts c 1 (landed m ρ c 1) ⊢ iprop((landPts c 1 (landed m ρ c 1) -∗ WP c (k (slab1 m ρ c)) Q)
      -∗ WP c (.op (.load zM rect1.toLoadRect hl) k) Q) := by
  unfold landPts slab1
  exact wp_load_rect 𝒱₀ (c : Thread nD τ) none Set.univ (m := zM) (r := rect1) access1_set

/-- The own rows of the result read (and the value dropped). -/
theorem step_rows_load (f : Buf (Elt F) ((c : Thread nD τ).loc cc0_stg1_0)) (off : Fin 2 → ℕ) (ho : off = k0_off3 c) (hb : ∀ a, off a + S128x16.size a ≤ S512x16.size a)
    {hl : (oM : Memref sig .tc .vmem S512x16 .f32).view.LoadsAt (Rect.unit (s := S512x16) off S128x16.size hb).toLoadRect}
    {α : Type} {k : ((Rect.unit (s := S512x16) off S128x16.size hb).toLoadRect.shape.Idx → Elt F .f32) → Prog (TpuEff nD τ sig (Elt F) Λ₀ .tc) α} {Q : α → sProp 𝕄} :
    ownPts c f ⊢ iprop((∀ x, ownPts c f -∗ WP c (k x) Q)
      -∗ WP c (.op (.load oM (Rect.unit (s := S512x16) off S128x16.size hb).toLoadRect hl) k) Q) := by
  subst ho
  iintro H Hk
  unfold ownPts
  iapply (wp_load_rect 𝒱₀ (c : Thread nD τ) none Set.univ (m := oM) (r := Rect.unit (s := S512x16) (k0_off3 c) S128x16.size hb) (S := (rows c).view.set) (Finset.Subset.refl _)) $$ H
  iintro H
  iapply Hk; iexact H

theorem own_written (f : Buf (Elt F) ((c : Thread nD τ).loc cc0_stg1_0)) :
    (((c : Thread nD τ).loc cc0_stg1_0) ↦[(rows c).view.set]{fullShare} ((rows c).view.write (Elt F) f (cand2 m ρ c) Finset.univ) : sProp 𝕄)
      = (((c : Thread nD τ).loc cc0_stg1_0) ↦[(rows c).view.set]{fullShare} oFull m ρ c) :=
  pointsTo_congr fun i hi => rows_write m ρ c c (filler_own c) f i hi

/-- The own rows of the result written. -/
theorem step_rows_store (f : Buf (Elt F) ((c : Thread nD τ).loc cc0_stg1_0)) (off : Fin 2 → ℕ) (ho : off = k0_off3 c) (hb : ∀ a, off a + S128x16.size a ≤ S512x16.size a)
    {hx : ((oM : Memref sig .tc .vmem S512x16 .f32).access (Rect.unit (s := S512x16) off S128x16.size hb)).Stores Finset.univ}
    {hm : (Finset.univ : Finset S128x16.Idx) = Finset.univ ∨ ∀ a, (Rect.unit (s := S512x16) off S128x16.size hb).stride a = 1}
    {α : Type} {k : PUnit → Prog (TpuEff nD τ sig (Elt F) Λ₀ .tc) α} {Q : α → sProp 𝕄} :
    ownPts c f ⊢ iprop((ownPts c (oFull m ρ c) -∗ WP c (k ⟨⟩) Q)
      -∗ WP c (.op (.store oM (Rect.unit (s := S512x16) off S128x16.size hb) (cand2 m ρ c) Finset.univ hx hm) k) Q) := by
  subst ho
  iintro H Hk
  unfold ownPts
  iapply (wp_store 𝒱₀ (c : Thread nD τ) none Set.univ (m := oM) (r := Rect.unit (s := S512x16) (k0_off3 c) S128x16.size hb) (Mk := Finset.univ) (S := (rows c).view.set) (Finset.Subset.refl _)) $$ H
  iintro H
  iapply Hk
  iapply (Entails.of_eq (own_written m ρ c f)); iexact H

end Slots

theorem off2_eq (c : Dev nD) : k0_off2 c = k0_off3 c := (k0_off2_eq c).trans (k0_off3_eq c).symm

theorem units_cM : (cM : Memref sig .tc .vmem S128x16 .f32).view.dmaCredit = N := rfl
theorem units_slot0 : (slot0 : Memref sig .tc .vmem S128x16 .f32).view.dmaCredit = N := rfl
theorem units_slot1 : (slot1 : Memref sig .tc .vmem S128x16 .f32).view.dmaCredit = N := rfl
theorem units_rows (c : Dev nD) : (rows c).view.dmaCredit = N := rfl

abbrev lanes : IVec S128x16 32 := iota .tc S128x16 32 [1] iota_S128x16_d1_w32

section Parts
variable (K : Dev nD × KI → ℕ) (c : Dev nD)

theorem cand_back0 : candPts c (shr 0) (sent m ρ c 0) ⊢ buf c cc0_scratch1 (cand0 m ρ c) := Entails.of_eq (candPts_whole c _ _)
theorem cand_back1 : candPts c (shr 1) (sent m ρ c 1) ⊢ buf c cc0_scratch1 (cand1 m ρ c) := Entails.of_eq (candPts_whole c _ _)
theorem cand_split : buf c cc0_scratch1 (cand2 m ρ c) ⊢ iprop(candPts c (shr 2) (sent m ρ c 2) ∗ candPts c (shr 3) (sent m ρ c 3) ∗ candPts c (shr 4) (sent m ρ c 4)) := by
  rw [candPts_whole, candPts_whole, candPts_whole]; exact (Ring.pointsTo_thirds fullShare _).1
theorem cand_join : iprop(candPts c (shr 2) (sent m ρ c 2) ∗ candPts c (shr 3) (sent m ρ c 3) ∗ candPts c (shr 4) (sent m ρ c 4)) ⊢ buf c cc0_scratch1 (cand2 m ρ c) := by
  rw [candPts_whole, candPts_whole, candPts_whole]; exact (Ring.pointsTo_thirds fullShare _).2

/-- The first exchange completes. -/
theorem part7_spec (w2 w5 w : BitVec 32) {Q : _ → sProp 𝕄} :
    iprop(env m ρ K ∗ owing c (owedR c 4) ∗ cred (tallyAt (sendCell c 0) () N) ∗ atPos ER (sendCell c 0) 0 ∅ 0
        ∗ cred (tallyAt (recvCell c 0) () N) ∗ atPos ER (recvCell c 0) 0 ∅ 0)
      ⊢ iprop(((owing c (owedR c 4) ∗ buf c cc0_scratch1 (cand0 m ρ c) ∗ landPts c 0 (landed m ρ c 0) ∗ semVal (sendCell c 0) 0 ∗ semVal (recvCell c 0) 0)
            -∗ Q ⟨cand0 m ρ c, lanes, k0_pay47 (slab0 m ρ c), k0_pay48, k0_pay49⟩)
        -∗ WP (F := F) c (k0_part7 xM wX oM wO wM wW cM wC zM wZ cc0_scratch3 cc0_scratch4 cc0_scratch5 cc0_scratch6 w2 w5 w) Q) := by
  rw [k0_part7_eq_skeleton]; unfold k0_part7_skel
  simp only [Prog.lift, Prog.bind_op, Prog.bind_ret, Prog.pure_eq_ret]
  iintro ⟨#HE, HO, Hcs, Has, Hcr, Har⟩ Hk
  iapply (step_wait_send m ρ K c 0 _ rfl (owedR c 4) (mayWait_recv (F := F) c _ 4 (by decide) (by decide +kernel)) units_cM) $$ [HO Hcs Has]
  · isplitr; · iexact HE
    isplitl [HO]; · iexact HO
    isplitl [Hcs]; · iexact Hcs
    iexact Has
  iintro ⟨HO, Hc, Hs⟩
  iapply (step_wait_recv m ρ K c 0 _ rfl (owedR c 4) (mayWait_recv (F := F) c _ 4 (by decide) (by decide +kernel)) units_slot0) $$ [HO Hcr Har]
  · isplitr; · iexact HE
    isplitl [HO]; · iexact HO
    isplitl [Hcr]; · iexact Hcr
    iexact Har
  iintro ⟨HO, Hl, Hr⟩
  ihave Hc := (cand_back0 m ρ c) $$ Hc
  iapply (step_cand_load c (cand0 m ρ c)) $$ Hc; iintro Hc
  iapply (step_slot0_load m ρ c) $$ Hl; iintro Hl
  iapply done_ret
  iapply Hk
  isplitl [HO]; · iexact HO
  isplitl [Hc]; · iexact Hc
  isplitl [Hl]; · iexact Hl
  isplitl [Hs]; · iexact Hs
  iexact Hr

theorem part8_spec (a : FVec F S128x16 .f32) (b : FVec F S128x16 .f32) (i j k : IVec S128x16 32) {Q : _ → sProp 𝕄} :
    Q ⟨lanes, k0_pay51, k0_pay53 a i b j k, k0_pay54 a i b j k⟩
      ⊢ WP (F := F) c (k0_part8 xM wX oM wO wM wW cM wC zM wZ cc0_scratch3 cc0_scratch4 cc0_scratch5 cc0_scratch6 a i b j k) Q := by
  rw [k0_part8_eq_skeleton]; unfold k0_part8_skel
  exact done_ret c _

theorem merged1 : k0_pay55 lanes k0_pay51 (k0_pay53 (cand0 m ρ c) lanes (k0_pay47 (slab0 m ρ c)) k0_pay48 k0_pay49)
    (k0_pay54 (cand0 m ρ c) lanes (k0_pay47 (slab0 m ρ c)) k0_pay48 k0_pay49) = cand1 m ρ c := by
  rw [pay55_val, slab0_val]; unfold cand1; rfl
theorem merged2 : k0_pay60 (k0_pay58 (cand1 m ρ c) lanes (k0_pay56 (slab1 m ρ c)) k0_pay57) k0_pay59 15#32 = cand2 m ρ c := by
  rw [pay60_val, slab1_val]; unfold cand2; rfl

/-- The first merge is stored and the second exchange begins. -/
theorem part9_spec (w2 w5 w8 : BitVec 32) {Q : _ → sProp 𝕄} :
    iprop(env m ρ K ∗ owing c (owedR c 4) ∗ buf c cc0_scratch1 (cand0 m ρ c) ∗ (∃ f, landPts (pr 1 c) 1 f) ∗ dutyTok ER (sendCell c 1) 0 0
        ∗ dutyTok ER (recvCell (pr 1 c) 1) 0 0 ∗ atPos ER (sendCell c 1) 0 ∅ 0)
      ⊢ iprop((∀ w w', (owing c (owedR c 3) ∗ buf c cc0_scratch1 (cand1 m ρ c) ∗ semVal (sendCell c 1) 0) -∗ Q ⟨w, w'⟩)
        -∗ WP (F := F) c (k0_part9 xM wX oM wO wM wW cM wC zM wZ cc0_scratch3 cc0_scratch4 cc0_scratch5 cc0_scratch6 c w2 w5 w8
          lanes k0_pay51 (k0_pay53 (cand0 m ρ c) lanes (k0_pay47 (slab0 m ρ c)) k0_pay48 k0_pay49)
          (k0_pay54 (cand0 m ρ c) lanes (k0_pay47 (slab0 m ρ c)) k0_pay48 k0_pay49)) Q) := by
  rw [k0_part9_eq_skeleton]; unfold k0_part9_skel
  simp only [Prog.lift, Prog.bind_op, Prog.bind_ret, Prog.pure_eq_ret]
  iintro ⟨#HE, HO, Hc, Hl, Hts, Htr, Has⟩ Hk
  iapply (step_cand_load c (cand0 m ρ c)) $$ Hc; iintro Hc
  iapply (step_cand_store c (cand0 m ρ c) _ _ _ (merged1 m ρ c)) $$ Hc; iintro Hc
  iapply (step_send m ρ K c 1 _ (dev7_eq c) _ rfl _ _ rfl rfl (owedR c 3)) $$ [HO Hc Hl Hts Htr]
  · isplitr; · iexact HE
    isplitl [HO]; · iexact HO
    isplitl [Hc]; · rw [candPts_whole]; iexact Hc
    isplitl [Hl]; · iexact Hl
    isplitl [Hts]; · iexact Hts
    iexact Htr
  iintro ⟨HO, Hcs⟩
  iapply (step_wait_send m ρ K c 1 _ rfl (owedR c 3) (mayWait_recv (F := F) c _ 3 (by decide) (by decide +kernel)) units_cM) $$ [HO Hcs Has]
  · isplitr; · iexact HE
    isplitl [HO]; · iexact HO
    isplitl [Hcs]; · iexact Hcs
    iexact Has
  iintro ⟨HO, Hc, Hs⟩
  ihave Hc := (cand_back1 m ρ c) $$ Hc
  iapply done_ret
  iapply Hk
  isplitl [HO]; · iexact HO
  isplitl [Hc]; · iexact Hc
  iexact Hs

/-- The second exchange completes. -/
theorem part10_spec (w2 w5 w w' : BitVec 32) {Q : _ → sProp 𝕄} :
    iprop(env m ρ K ∗ owing c (owedR c 3) ∗ buf c cc0_scratch1 (cand1 m ρ c) ∗ cred (tallyAt (recvCell c 1) () N) ∗ atPos ER (recvCell c 1) 0 ∅ 0)
      ⊢ iprop(((owing c (owedR c 3) ∗ buf c cc0_scratch1 (cand1 m ρ c) ∗ landPts c 1 (landed m ρ c 1) ∗ semVal (recvCell c 1) 0)
            -∗ Q ⟨cand1 m ρ c, lanes, k0_pay56 (slab1 m ρ c), k0_pay57⟩)
        -∗ WP (F := F) c (k0_part10 xM wX oM wO wM wW cM wC zM wZ cc0_scratch3 cc0_scratch4 cc0_scratch5 cc0_scratch6 w2 w5 w w') Q) := by
  rw [k0_part10_eq_skeleton]; unfold k0_part10_skel
  simp only [Prog.lift, Prog.bind_op, Prog.bind_ret, Prog.pure_eq_ret]
  iintro ⟨#HE, HO, Hc, Hcr, Har⟩ Hk
  iapply (step_wait_recv m ρ K c 1 _ rfl (owedR c 3) (mayWait_recv (F := F) c _ 3 (by decide) (by decide +kernel)) units_slot1) $$ [HO Hcr Har]
  · isplitr; · iexact HE
    isplitl [HO]; · iexact HO
    isplitl [Hcr]; · iexact Hcr
    iexact Har
  iintro ⟨HO, Hl, Hr⟩
  iapply (step_cand_load c (cand1 m ρ c)) $$ Hc; iintro Hc
  iapply (step_slot1_load m ρ c) $$ Hl; iintro Hl
  iapply done_ret
  iapply Hk
  isplitl [HO]; · iexact HO
  isplitl [Hc]; · iexact Hc
  isplitl [Hl]; · iexact Hl
  iexact Hr

theorem part11_spec (a b : FVec F S128x16 .f32) (i j : IVec S128x16 32) {Q : _ → sProp 𝕄} :
    Q ⟨k0_pay58 a i b j, k0_pay59, 15#32⟩
      ⊢ WP (F := F) c (k0_part11 xM wX oM wO wM wW cM wC zM wZ cc0_scratch3 cc0_scratch4 cc0_scratch5 cc0_scratch6 a i b j) Q := by
  rw [k0_part11_eq_skeleton]; unfold k0_part11_skel
  exact done_ret c _

/-- The second merge is stored, the own rows of the result are written, and the gather begins. -/
theorem part12_spec (w2 w5 w8 w11 : BitVec 32) (f : Buf (Elt F) ((c : Thread nD τ).loc cc0_stg1_0)) {Q : _ → sProp 𝕄} :
    iprop(env m ρ K ∗ owing c (owedR c 3) ∗ buf c cc0_scratch1 (cand1 m ρ c) ∗ ownPts c f ∗ (∃ f, landPts (pr 2 c) 2 f) ∗ dutyTok ER (sendCell c 2) 0 0
        ∗ dutyTok ER (recvCell (pr 2 c) 2) 0 0)
      ⊢ iprop((∀ w w' u u', (owing c (owedR c 2) ∗ candPts c (shr 3) (sent m ρ c 3) ∗ candPts c (shr 4) (sent m ρ c 4) ∗ ownPts c (oFull m ρ c)
              ∗ cred (tallyAt (sendCell c 2) () N)) -∗ Q ⟨w, w', u, u'⟩)
        -∗ WP (F := F) c (k0_part12 xM wX oM wO wM wW cM wC zM wZ cc0_scratch3 cc0_scratch4 cc0_scratch5 cc0_scratch6 c w2 w5 w8 w11
          (k0_pay58 (cand1 m ρ c) lanes (k0_pay56 (slab1 m ρ c)) k0_pay57) k0_pay59 15#32) Q) := by
  rw [k0_part12_eq_skeleton]; unfold k0_part12_skel
  simp only [Prog.lift, Prog.bind_op, Prog.bind_ret, Prog.pure_eq_ret]
  iintro ⟨#HE, HO, Hc, Hown, Hl, Hts, Htr⟩ Hk
  iapply (step_cand_load c (cand1 m ρ c)) $$ Hc; iintro Hc
  iapply (step_cand_store c (cand1 m ρ c) _ _ _ (merged2 m ρ c)) $$ Hc; iintro Hc
  iapply (step_cand_load c (cand2 m ρ c)) $$ Hc; iintro Hc
  iapply (step_rows_load c f _ (off2_eq c)) $$ Hown; iintro %x Hown
  iapply (step_rows_store m ρ c f _ (off2_eq c)) $$ Hown; iintro Hown
  ihave Hcc := (cand_split m ρ c) $$ Hc
  icases Hcc with ⟨Hc2, Hc3, Hc4⟩
  iapply (step_send m ρ K c 2 _ (dev8_eq c) _ rfl _ _ rfl rfl (owedR c 2)) $$ [HO Hc2 Hl Hts Htr]
  · isplitr; · iexact HE
    isplitl [HO]; · iexact HO
    isplitl [Hc2]; · iexact Hc2
    isplitl [Hl]; · iexact Hl
    isplitl [Hts]; · iexact Hts
    iexact Htr
  iintro ⟨HO, Hcs⟩
  iapply done_ret
  iapply Hk
  isplitl [HO]; · iexact HO
  isplitl [Hc3]; · iexact Hc3
  isplitl [Hc4]; · iexact Hc4
  isplitl [Hown]; · iexact Hown
  iexact Hcs

/-- The other two transfers of the gather, and the first two waits. -/
theorem part13_spec (w2 w5 w8 w w' : BitVec 32) {Q : _ → sProp 𝕄} :
    iprop(env m ρ K ∗ owing c (owedR c 2) ∗ candPts c (shr 3) (sent m ρ c 3) ∗ candPts c (shr 4) (sent m ρ c 4)
        ∗ ((∃ f, landPts (pr 3 c) 3 f) ∗ dutyTok ER (sendCell c 3) 0 0 ∗ dutyTok ER (recvCell (pr 3 c) 3) 0 0)
        ∗ ((∃ f, landPts (pr 4 c) 4 f) ∗ dutyTok ER (sendCell c 4) 0 0 ∗ dutyTok ER (recvCell (pr 4 c) 4) 0 0)
        ∗ cred (tallyAt (sendCell c 2) () N) ∗ atPos ER (sendCell c 2) 0 ∅ 0 ∗ cred (tallyAt (recvCell c 2) () N) ∗ atPos ER (recvCell c 2) 0 ∅ 0)
      ⊢ iprop((∀ u u', (owing c 0 ∗ cred (tallyAt (sendCell c 3) () N) ∗ cred (tallyAt (sendCell c 4) () N) ∗ candPts c (shr 2) (sent m ρ c 2)
              ∗ landPts c 2 (landed m ρ c 2) ∗ semVal (sendCell c 2) 0 ∗ semVal (recvCell c 2) 0) -∗ Q ⟨u, u'⟩)
        -∗ WP (F := F) c (k0_part13 xM wX oM wO wM wW cM wC zM wZ cc0_scratch3 cc0_scratch4 cc0_scratch5 cc0_scratch6 c w2 w5 w8 w w') Q) := by
  rw [k0_part13_eq_skeleton]; unfold k0_part13_skel
  simp only [Prog.lift, Prog.bind_op, Prog.bind_ret, Prog.pure_eq_ret]
  iintro ⟨#HE, HO, Hc3, Hc4, ⟨Hl3, Hts3, Htr3⟩, ⟨Hl4, Hts4, Htr4⟩, Hcs, Has, Hcr, Har⟩ Hk
  iapply (step_send m ρ K c 3 _ (dev9_eq c) _ rfl _ _ rfl rfl (owedR c 1)) $$ [HO Hc3 Hl3 Hts3 Htr3]
  · isplitr; · iexact HE
    isplitl [HO]; · iexact HO
    isplitl [Hc3]; · iexact Hc3
    isplitl [Hl3]; · iexact Hl3
    isplitl [Hts3]; · iexact Hts3
    iexact Htr3
  iintro ⟨HO, Hcs3⟩
  iapply (step_send m ρ K c 4 _ (dev10_eq c) _ rfl _ _ rfl rfl 0) $$ [HO Hc4 Hl4 Hts4 Htr4]
  · isplitr; · iexact HE
    isplitl [HO]; · iexact HO
    isplitl [Hc4]; · iexact Hc4
    isplitl [Hl4]; · iexact Hl4
    isplitl [Hts4]; · iexact Hts4
    iexact Htr4
  iintro ⟨HO, Hcs4⟩
  iapply (step_wait_send m ρ K c 2 _ rfl 0 (mayWait_recv (F := F) c _ 0 (by decide) (by decide +kernel)) units_cM) $$ [HO Hcs Has]
  · isplitr; · iexact HE
    isplitl [HO]; · iexact HO
    isplitl [Hcs]; · iexact Hcs
    iexact Has
  iintro ⟨HO, Hc, Hs⟩
  iapply (step_wait_recv m ρ K c 2 _ rfl 0 (mayWait_recv (F := F) c _ 0 (by decide) (by decide +kernel)) (units_rows c)) $$ [HO Hcr Har]
  · isplitr; · iexact HE
    isplitl [HO]; · iexact HO
    isplitl [Hcr]; · iexact Hcr
    iexact Har
  iintro ⟨HO, Hl, Hr⟩
  iapply done_ret
  iapply Hk
  isplitl [HO]; · iexact HO
  isplitl [Hcs3]; · iexact Hcs3
  isplitl [Hcs4]; · iexact Hcs4
  isplitl [Hc]; · iexact Hc
  isplitl [Hl]; · iexact Hl
  isplitl [Hs]; · iexact Hs
  iexact Hr

end Parts

end Cert.TopK

end
-- ==== Proof.Body.lean ====
/-
The kernel's body on one device, from what the launch deals it to the result in its buffer.
-/
module

public import proofs.«01_k».proof.Proof.Exchange

@[expose] public section

set_option maxRecDepth 8000

noncomputable section

namespace Cert.TopK

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

attribute [local irreducible] cand0 cand1 cand2

/-! ## What a device starts from -/

/-- Its place in each of its own cells. -/
def places (c : Dev nD) : sProp 𝕄 := bigSep Finset.univ fun k : KI => atPos ER (kcell (c, k)) 0 ∅ 0
/-- The duties it pays: a signal, the two ends of a transfer, to every peer. -/
def pays (c : Dev nD) : sProp 𝕄 := bigSep Finset.univ fun p : Fin 5 =>
  iprop(dutyTok ER (barCell (pr p c)) 0 p ∗ dutyTok ER (sendCell c p) 0 0 ∗ dutyTok ER (recvCell (pr p c) p) 0 0)
/-- What it may wait for. -/
def credits (c : Dev nD) : sProp 𝕄 := iprop(cred (tallyAt (barCell c) () 5) ∗ bigSep Finset.univ fun p : Fin 5 => cred (tallyAt (recvCell c p) () N))
/-- Its semaphores of the protocol at zero. -/
def zeros (c : Dev nD) : sProp 𝕄 := bigSep Finset.univ fun k : KI => semVal (kcell (c, k)) 0
/-- Its scratch buffers, at any contents. -/
def scratch (c : Dev nD) : sProp 𝕄 := iprop((∃ f, buf c cc0_scratch0 f) ∗ (∃ f, buf c cc0_scratch1 f) ∗ ∃ f, buf c cc0_scratch2 f)

omit [FloatOps F] in
theorem sep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
omit [FloatOps F] in
theorem sep_KI (Φ : KI → sProp 𝕄) : bigSep Finset.univ Φ
    = iprop(Φ none ∗ Φ (some (false, 0)) ∗ Φ (some (true, 0)) ∗ Φ (some (false, 1)) ∗ Φ (some (true, 1)) ∗ Φ (some (false, 2)) ∗ Φ (some (true, 2))
      ∗ Φ (some (false, 3)) ∗ Φ (some (true, 3)) ∗ Φ (some (false, 4)) ∗ Φ (some (true, 4))) :=
  bigSep_univ_eq_bigSepL [none, some (false, 0), some (true, 0), some (false, 1), some (true, 1), some (false, 2), some (true, 2),
    some (false, 3), some (true, 3), some (false, 4), some (true, 4)] (by decide) (by decide) Φ

theorem own_join (c : Dev nD) :
    iprop(ownPts c (oFull m ρ c) ∗ landPts c 2 (landed m ρ c 2) ∗ landPts c 3 (landed m ρ c 3) ∗ landPts c 4 (landed m ρ c 4)) ⊢ buf c cc0_stg1_0 (oFull m ρ c) :=
  Entails.of_eq (obuf_split c (oFull m ρ c)).symm
theorem z_join (c : Dev nD) : iprop(landPts c 0 (landed m ρ c 0) ∗ landPts c 1 (landed m ρ c 1)) ⊢ buf c cc0_scratch2 (zFull m ρ c) :=
  (zbuf_split c (zFull m ρ c)).2

set_option maxHeartbeats 1600000 in
/-- The body. -/
theorem body_runs (K : Dev nD × KI → ℕ) (c : Dev nD) (Kt : PUnit → sProp 𝕄) :
    iprop(env m ρ K ∗ places c ∗ pays c ∗ credits c ∗ owing c (O₀ c) ∗ buf c cc0_stg0_0 (xstg m ρ c) ∗ (∃ f, buf c cc0_stg1_0 f) ∗ scratch c)
      ⊢ iprop(((owing c 0 ∗ buf c cc0_stg0_0 (xstg m ρ c) ∗ buf c cc0_stg1_0 (oFull m ρ c) ∗ scratch c ∗ zeros c) -∗ Kt ⟨⟩)
        -∗ WP (F := F) c (cc0_body xM wX oM wO wM wW cM wC zM wZ cc0_scratch3 cc0_scratch4 cc0_scratch5 cc0_scratch6) Kt) := by
  rw [cc0_body_eq_skeleton]; unfold cc0_body_skel
  simp only [Prog.lift, wp_bind]
  unfold places pays credits scratch zeros
  simp only [sep_fin5, sep_KI]
  iintro ⟨#HE, ⟨HaB, Has0, Har0, Has1, Har1, Has2, Har2, Has3, Har3, Has4, Har4⟩,
    ⟨⟨Htb0, Hts0, Htr0⟩, ⟨Htb1, Hts1, Htr1⟩, ⟨Htb2, Hts2, Htr2⟩, ⟨Htb3, Hts3, Htr3⟩, ⟨Htb4, Hts4, Htr4⟩⟩,
    ⟨HcB, Hcr0, Hcr1, Hcr2, Hcr3, Hcr4⟩, HO, Hx, ⟨%fo, Ho⟩, ⟨⟨%fw, Hw⟩, ⟨%fc, Hc⟩, ⟨%fz, Hz⟩⟩⟩ Hk
  ihave Hz := (zbuf_split c fz).1 $$ Hz
  icases Hz with ⟨Hz0, Hz1⟩
  ihave Ho := (Entails.of_eq (obuf_split c fo)) $$ Ho
  icases Ho with ⟨Hown, Ho2, Ho3, Ho4⟩
  iapply (part1_spec m ρ K c) $$ [HO Htb0 Hz0 Htb1 Hz1]
  · isplitr; · iexact HE
    isplitl [HO]; · iexact HO
    isplitl [Htb0 Hz0]
    · isplitl [Htb0]; · iexact Htb0
      iexists fz; iexact Hz0
    isplitl [Htb1]; · iexact Htb1
    iexists fz; iexact Hz1
  iintro %w2 %w5 %w8 %w11 %w14 %w15 %w16 %w17 %w19 HO
  try dsimp only
  iapply (part2_spec m ρ K c _ _ _ _ _ _ _ _ _ fc) $$ [HO Htb2 Ho2 Htb3 Ho3 Htb4 Ho4 HcB HaB Hx Hc]
  · isplitr; · iexact HE
    isplitl [HO]; · iexact HO
    isplitl [Htb2 Ho2]
    · isplitl [Htb2]; · iexact Htb2
      iexists fo; iexact Ho2
    isplitl [Htb3 Ho3]
    · isplitl [Htb3]; · iexact Htb3
      iexists fo; iexact Ho3
    isplitl [Htb4 Ho4]
    · isplitl [Htb4]; · iexact Htb4
      iexists fo; iexact Ho4
    isplitl [HcB]; · iexact HcB
    isplitl [HaB]; · iexact HaB
    isplitl [Hx]; · iexact Hx
    iexact Hc
  iintro ⟨HO, ⟨Hl0, Hl1, Hl2, Hl3, Hl4⟩, HzB, Hx, Hf⟩
  try dsimp only
  iapply (part3_spec c (mine m ρ c)) $$ Hf
  iintro Hf
  try dsimp only
  iapply (part4_spec c (mine m ρ c) fw) $$ [Hf Hw]
  · isplitl [Hf]; · iexact Hf
    iexact Hw
  iintro ⟨Hf, Hw⟩
  try dsimp only
  iapply (part5_spec c (mine m ρ c)) $$ Hf
  iintro Hf
  try dsimp only
  iapply (part6_spec m ρ K c) $$ [HO Hf Hl0 Hts0 Htr0]
  · isplitr; · iexact HE
    isplitl [HO]; · iexact HO
    isplitl [Hf]; · iexact Hf
    isplitl [Hl0]; · iexact Hl0
    isplitl [Hts0]; · iexact Hts0
    iexact Htr0
  iintro %v6 ⟨HO, Hcs0⟩
  try dsimp only
  iapply (part7_spec m ρ K c) $$ [HO Hcs0 Has0 Hcr0 Har0]
  · isplitr; · iexact HE
    isplitl [HO]; · iexact HO
    isplitl [Hcs0]; · iexact Hcs0
    isplitl [Has0]; · iexact Has0
    isplitl [Hcr0]; · iexact Hcr0
    iexact Har0
  iintro ⟨HO, Hc, Hz0, Hs0, Hr0⟩
  try dsimp only
  iapply (part8_spec c)
  try dsimp only
  iapply (part9_spec m ρ K c) $$ [HO Hc Hl1 Hts1 Htr1 Has1]
  · isplitr; · iexact HE
    isplitl [HO]; · iexact HO
    isplitl [Hc]; · iexact Hc
    isplitl [Hl1]; · iexact Hl1
    isplitl [Hts1]; · iexact Hts1
    isplitl [Htr1]; · iexact Htr1
    iexact Has1
  iintro %v9 %v9' ⟨HO, Hc, Hs1⟩
  try dsimp only
  iapply (part10_spec m ρ K c) $$ [HO Hc Hcr1 Har1]
  · isplitr; · iexact HE
    isplitl [HO]; · iexact HO
    isplitl [Hc]; · iexact Hc
    isplitl [Hcr1]; · iexact Hcr1
    iexact Har1
  iintro ⟨HO, Hc, Hz1, Hr1⟩
  try dsimp only
  iapply (part11_spec c)
  try dsimp only
  iapply (part12_spec m ρ K c _ _ _ _ fo) $$ [HO Hc Hown Hl2 Hts2 Htr2]
  · isplitr; · iexact HE
    isplitl [HO]; · iexact HO
    isplitl [Hc]; · iexact Hc
    isplitl [Hown]; · iexact Hown
    isplitl [Hl2]; · iexact Hl2
    isplitl [Hts2]; · iexact Hts2
    iexact Htr2
  iintro %u1 %u2 %u3 %u4 ⟨HO, Hc3, Hc4, Hown, Hcs2⟩
  try dsimp only
  iapply (part13_spec m ρ K c) $$ [HO Hc3 Hc4 Hl3 Hts3 Htr3 Hl4 Hts4 Htr4 Hcs2 Has2 Hcr2 Har2]
  · isplitr; · iexact HE
    isplitl [HO]; · iexact HO
    isplitl [Hc3]; · iexact Hc3
    isplitl [Hc4]; · iexact Hc4
    isplitl [Hl3 Hts3 Htr3]
    · isplitl [Hl3]; · iexact Hl3
      isplitl [Hts3]; · iexact Hts3
      iexact Htr3
    isplitl [Hl4 Hts4 Htr4]
    · isplitl [Hl4]; · iexact Hl4
      isplitl [Hts4]; · iexact Hts4
      iexact Htr4
    isplitl [Hcs2]; · iexact Hcs2
    isplitl [Has2]; · iexact Has2
    isplitl [Hcr2]; · iexact Hcr2
    iexact Har2
  iintro %x1 %x2 ⟨HO, Hcs3, Hcs4, Hc2, Ho2, Hs2, Hr2⟩
  simp only [Prog.bind_op, Prog.bind_ret, Prog.pure_eq_ret]
  iapply (step_wait_send m ρ K c 3 _ rfl 0 (mayWait_recv (F := F) c _ 0 (by decide) (by decide +kernel)) units_cM) $$ [HO Hcs3 Has3]
  · isplitr; · iexact HE
    isplitl [HO]; · iexact HO
    isplitl [Hcs3]; · iexact Hcs3
    iexact Has3
  iintro ⟨HO, Hc3, Hs3⟩
  iapply done_ret
  iapply (step_wait_recv m ρ K c 3 _ rfl 0 (mayWait_recv (F := F) c _ 0 (by decide) (by decide +kernel)) (units_rows c)) $$ [HO Hcr3 Har3]
  · isplitr; · iexact HE
    isplitl [HO]; · iexact HO
    isplitl [Hcr3]; · iexact Hcr3
    iexact Har3
  iintro ⟨HO, Ho3, Hr3⟩
  iapply done_ret
  iapply (step_wait_send m ρ K c 4 _ rfl 0 (mayWait_recv (F := F) c _ 0 (by decide) (by decide +kernel)) units_cM) $$ [HO Hcs4 Has4]
  · isplitr; · iexact HE
    isplitl [HO]; · iexact HO
    isplitl [Hcs4]; · iexact Hcs4
    iexact Has4
  iintro ⟨HO, Hc4, Hs4⟩
  iapply done_ret
  iapply (step_wait_recv m ρ K c 4 _ rfl 0 (mayWait_recv (F := F) c _ 0 (by decide) (by decide +kernel)) (units_rows c)) $$ [HO Hcr4 Har4]
  · isplitr; · iexact HE
    isplitl [HO]; · iexact HO
    isplitl [Hcr4]; · iexact Hcr4
    iexact Har4
  iintro ⟨HO, Ho4, Hr4⟩
  iapply done_ret
  iapply done_ret
  iapply Hk
  isplitl [HO]; · iexact HO
  isplitl [Hx]; · iexact Hx
  isplitl [Hown Ho2 Ho3 Ho4]
  · iapply (own_join m ρ c)
    isplitl [Hown]; · iexact Hown
    isplitl [Ho2]; · iexact Ho2
    isplitl [Ho3]; · iexact Ho3
    iexact Ho4
  isplitl [Hw Hc2 Hc3 Hc4 Hz0 Hz1]
  · isplitl [Hw]; · iexact Hw
    isplitl [Hc2 Hc3 Hc4]
    · iexists (cand2 m ρ c)
      iapply (cand_join m ρ c)
      isplitl [Hc2]; · iexact Hc2
      isplitl [Hc3]; · iexact Hc3
      iexact Hc4
    iexists (zFull m ρ c)
    iapply (z_join m ρ c)
    isplitl [Hz0]; · iexact Hz0
    iexact Hz1
  isplitl [HzB]; · iexact HzB
  isplitl [Hs0]; · iexact Hs0
  isplitl [Hr0]; · iexact Hr0
  isplitl [Hs1]; · iexact Hs1
  isplitl [Hr1]; · iexact Hr1
  isplitl [Hs2]; · iexact Hs2
  isplitl [Hr2]; · iexact Hr2
  isplitl [Hs3]; · iexact Hs3
  isplitl [Hr3]; · iexact Hr3
  isplitl [Hs4]; · iexact Hs4
  iexact Hr4

/-! ## The body as the launch asks for it -/

/-- What device `c`'s body starts from besides its buffers. -/
def start (c : Dev nD) : sProp 𝕄 := iprop((∃ K, env m ρ K) ∗ places c ∗ pays c ∗ credits c)

def Φ₀ (c : Dev nD) : sProp 𝕄 := iprop(start m ρ c ∗ scratch c)
def Φ₁ (c : Dev nD) : sProp 𝕄 := iprop(scratch c ∗ zeros (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => oFull m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- A buffer of `c` whole, at contents equal to `X`. -/
abbrev held (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
theorem owns_held (c : Dev nD) (b : Ref sig .tc) (X : b.ty.Contents (Elt F)) :
    (owns (Ix := Unit) (Name := ℕ) (U := UU) (Lvl := ℕ) (c : Thread nD τ) (Memref.whole b) fullShare X : sProp 𝕄) = held c b X := by
  unfold owns held; simp only [Memref.view_whole, View.read_whole, View.set_whole]

theorem fetched (t : Fin cfg0.N) : (cfg0.win (0 : Fin 2)).fetch t = true := by rw [fin_N0 t]; rfl

def bodyIn (c : Dev nD) : sProp 𝕄 :=
  iprop(Φ₀ m ρ c ∗ (dats m ρ 0 c).owesAt () t0_0.castSucc
    ∗ (∃ d, held c cc0_stg0_0 ((dats m ρ 0 c).before (0 : Fin 2) t0_0 d))
    ∗ (∃ d, held c cc0_stg1_0 ((dats m ρ 0 c).before (1 : Fin 2) t0_0 d)))
def bodyOut (c : Dev nD) : sProp 𝕄 :=
  iprop(Φ₁ c ∗ (dats m ρ 0 c).owesAt () t0_0.succ ∗ held c cc0_stg0_0 (xstg m ρ c) ∗ held c cc0_stg1_0 (oFull m ρ c))

theorem body_meets (c : Dev nD) :
    bodyIn m ρ c ⊢ WP (F := F) c (cc0_body xM wX oM wO wM wW cM wC zM wZ cc0_scratch3 cc0_scratch4 cc0_scratch5 cc0_scratch6) (fun _ => bodyOut m ρ c) := by
  unfold bodyIn bodyOut Φ₀ Φ₁ start Dat.owesAt Pipeline.owesWithin
  iintro ⟨⟨⟨⟨%K, #HE⟩, Hp, Hy, Hcr⟩, Hscr⟩, ⟨%W, %hW, HO⟩, ⟨%d0, %g0, %hg0, Hx⟩, ⟨%d1, %g1, %hg1, Hout⟩⟩
  have hx : g0 = xstg m ρ c := by rw [hg0]; unfold Dat.before; rw [if_pos (fetched t0_0)]; rfl
  subst hx
  iapply (body_runs m ρ K c (fun _ => _)) $$ [Hp Hy Hcr Hscr HO Hx Hout]
  · isplitr; · iexact HE
    isplitl [Hp]; · iexact Hp
    isplitl [Hy]; · iexact Hy
    isplitl [Hcr]; · iexact Hcr
    isplitl [HO]; · unfold owing; iexists W; iexact HO
    isplitl [Hx]; · iexact Hx
    isplitl [Hout]; · iexists g1; iexact Hout
    iexact Hscr
  unfold owing
  iintro ⟨⟨%W', HO⟩, Hx, Hout, Hscr, Hz⟩
  isplitl [Hscr Hz]
  · isplitl [Hscr]; · iexact Hscr
    iexact Hz
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

theorem body_obligation (c : Dev nD) : BodyObligation (dats (F := F) m ρ 0 c) (defs₀ (F := F)) 𝒱₀ () Set.univ := fun t => by
  rw [fin_N0 t, bigSep_W0, bigSep_W0]
  simp only [owns_held]
  exact body_meets m ρ c

end Cert.TopK

end
-- ==== Proof.Launch.lean ====
/-
The launch: what each device is dealt (its places, the duties it pays, what it may wait for), the invariants of all cells
made in one step, and the run of `@main` from any memory.
-/
module

public import proofs.«01_k».proof.Proof.Body
public import Idealize.ShloMosaic.Lib.Pipeline.CollectiveSegs

@[expose] public section

set_option maxRecDepth 8000

noncomputable section

namespace Cert.TopK

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

attribute [local irreducible] cand0 cand1 cand2

/-! ## The cells and the tokens as minted -/

/-- The kernel's own semaphores: every transfer's two ends. -/
abbrev osem (k : Bool × Fin 5) : SemLoc sig := csem (some k)

theorem ownSemFacts : Pipeline.OwnSemFacts cfg0.spec osem := by decide +kernel

theorem share_eq (c : Dev nD) (w : Fin cfg0.W) : (dats m ρ 0 c).share w = fullShare := by unfold Dat.share; split <;> rfl

theorem csem_inj : Function.Injective csem := by decide +kernel
theorem kcell_inj : Function.Injective kcell := by
  rintro ⟨c, k⟩ ⟨d, l⟩ h
  have hc : c = d := congrArg (fun g : GSem nD τ sig => g.1.1) h
  have hk : k = l := csem_inj (congrArg Prod.snd h)
  rw [hc, hk]
def allCells : Finset (GSem nD τ sig) := Finset.univ.map ⟨kcell, kcell_inj⟩

/-- Peer `p`'s three tokens of a device's own cells: the signal's, and the two ends of the transfer's. -/
abbrev tokPart : Fin 5 × Fin 3 → SemLoc sig × Fin 5
  | (p, 0) => (.reg barS, p) | (p, 1) => (.dma (sendS p), 0) | (p, 2) => (.dma (recvS p), 0)
theorem tokPart_inj : Function.Injective tokPart := by decide +kernel
abbrev tokAt (x : Dev nD × Fin 5 × Fin 3) : GSem nD τ sig × ℕ × Fin 5 := (((x.1 : Thread nD τ), (tokPart x.2).1), 0, (tokPart x.2).2)
theorem tokAt_inj : Function.Injective tokAt := by
  rintro ⟨c, x⟩ ⟨d, y⟩ h
  have hc : c = d := congrArg (fun g : GSem nD τ sig × ℕ × Fin 5 => g.1.1.1) h
  have hx : x = y := tokPart_inj (congrArg (fun g : GSem nD τ sig × ℕ × Fin 5 => (g.1.2, g.2.2)) h)
  rw [hc, hx]
def allToks : Finset (GSem nD τ sig × ℕ × Fin 5) := Finset.univ.map ⟨tokAt, tokAt_inj⟩

def u₀ : UU := (initOf (Pipeline.cells cfgs cellOf_inj) (Pipeline.launchToks cfgs cellOf_inj), initOf allCells allToks)

/-- The tokens of a device's own cells. -/
def toks (c : Dev nD) : sProp 𝕄 := bigSep Finset.univ fun p : Fin 5 =>
  iprop(dutyTok ER (barCell c) 0 p ∗ dutyTok ER (sendCell c p) 0 0 ∗ dutyTok ER (recvCell c p) 0 0)
/-- That every cell of a device is at round 0 or later. -/
def rounds0 (c : Dev nD) : sProp 𝕄 := bigSep Finset.univ fun k : KI => reached ER (kcell (c, k)) 0

def G (c : Dev nD) : sProp 𝕄 :=
  iprop((bigSep Finset.univ fun k : KI => roundState ER (Rd m ρ) (kcell (c, k)) 0) ∗ places c ∗ rounds0 c ∗ toks c)

omit [FloatOps F] in
theorem sep_fin3 (Φ : Fin 3 → sProp 𝕄) : bigSep Finset.univ Φ = iprop(Φ 0 ∗ Φ 1 ∗ Φ 2) :=
  bigSep_univ_eq_bigSepL [0, 1, 2] (by decide) (by decide) Φ

omit [FloatOps F] in
theorem over_cells (Φ : GSem nD τ sig → sProp 𝕄) :
    bigSep allCells Φ = bigSep Finset.univ fun c : Dev nD => bigSep Finset.univ fun k : KI => Φ (kcell (c, k)) := by
  unfold allCells; rw [bigSep_map, bigSep_univ_prod]; rfl
omit [FloatOps F] in
theorem over_toks : bigSep allToks (fun x => (dutyTok ER x.1 x.2.1 x.2.2 : sProp 𝕄)) = bigSep Finset.univ fun c : Dev nD => toks c := by
  unfold allToks; rw [bigSep_map, bigSep_univ_prod]
  refine bigSep_congr fun c _ => ?_
  rw [bigSep_univ_prod]; unfold toks
  exact bigSep_congr fun p _ => sep_fin3 _

theorem fund : BI.own (ER (initOf allCells allToks)) ⊢ (|==> bigSep Finset.univ (G m ρ) : sProp 𝕄) := by
  iintro HX
  imod (Rounds.fund ER (Rd m ρ) allCells allToks) $$ HX with ⟨Hst, Hr, Hat, Htok⟩
  imodintro
  ihave Hst := (Entails.of_eq (over_cells fun g => roundState ER (Rd m ρ) g 0)) $$ Hst
  ihave Hat := (Entails.of_eq (over_cells (F := F) fun g => atPos ER g 0 ∅ 0)) $$ Hat
  ihave Hr := (Entails.of_eq (over_cells (F := F) fun g => reached ER g 0)) $$ Hr
  ihave Htok := (Entails.of_eq (over_toks (F := F))) $$ Htok
  unfold G places rounds0; simp only [bigSep_sep']
  isplitl [Hst]; · iexact Hst
  isplitl [Hat]; · iexact Hat
  isplitl [Hr]; · iexact Hr
  iexact Htok

/-! ## The invariants, made for all devices at once -/

omit [FloatOps F] in
theorem bar_sem0 (c : Dev nD) : (unscopedSems0 c : sProp 𝕄) = semVal (barCell c) 0 := by
  unfold unscopedSems0; rw [bigSep_eq_bigSepL_of_eq [SemLoc.reg barS] (by decide) (by decide)]; rfl

omit [FloatOps F] in
theorem own_sems0 (c : Dev nD) : (Pipeline.ownSems0 (Ix := Unit) (Name := ℕ) (U := UU) (Lvl := ℕ) (Val := Elt F) (τ := τ) osem c : sProp 𝕄)
    = iprop(semVal (sendCell c 0) 0 ∗ semVal (recvCell c 0) 0 ∗ semVal (sendCell c 1) 0 ∗ semVal (recvCell c 1) 0
      ∗ semVal (sendCell c 2) 0 ∗ semVal (recvCell c 2) 0 ∗ semVal (sendCell c 3) 0 ∗ semVal (recvCell c 3) 0
      ∗ semVal (sendCell c 4) 0 ∗ semVal (recvCell c 4) 0) := by
  rw [Pipeline.ownSems0_eq_of_list c osem [(false, 0), (true, 0), (false, 1), (true, 1), (false, 2), (true, 2), (false, 3), (true, 3), (false, 4), (true, 4)]
    (by decide) (by decide)]; rfl

omit [FloatOps F] in
theorem zeros_eq (c : Dev nD) : (zeros c : sProp 𝕄)
    = iprop(unscopedSems0 c ∗ Pipeline.ownSems0 (Ix := Unit) (Name := ℕ) (U := UU) (Lvl := ℕ) (Val := Elt F) (τ := τ) osem c) := by
  unfold zeros; rw [bar_sem0, own_sems0, sep_KI]

/-- Every cell of a device has an invariant. -/
def guarded (c : Dev nD) : sProp 𝕄 := bigSep Finset.univ fun k : KI => iprop(∃ κ : ℕ, cellInv ER (Rd m ρ) κ (kcell (c, k)))

theorem guard (c : Dev nD) :
    iprop(zeros c ∗ (bigSep Finset.univ fun k : KI => roundState ER (Rd m ρ) (kcell (c, k)) 0)) ⊢ (|={Set.univ}=> guarded m ρ c : sProp 𝕄) := by
  unfold zeros guarded; rw [← bigSep_sep']
  exact (bigSep_mono fun k _ => (Rounds.body_intro ER (Rd m ρ) (kcell (c, k))).trans inv_alloc).trans (bigSep_fupd _ _)

theorem guard_own (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop(guarded m ρ c ∗ places c ∗ rounds0 c ∗ toks c) := by
  unfold G
  iintro ⟨Hos, Hus, Hst, Hat, Hr, Htok⟩
  ihave Hz := (Entails.of_eq (zeros_eq (F := F) c).symm) $$ [Hos Hus]
  · isplitl [Hus] <;> iassumption
  imod (guard m ρ c) $$ [Hz Hst] with Hinv
  · isplitl [Hz] <;> iassumption
  imodintro
  isplitl [Hinv]; · iexact Hinv
  isplitl [Hat]; · iexact Hat
  isplitl [Hr]; · iexact Hr
  iexact Htok

/-- What every device may know: the invariants and that the rounds have begun. -/
def known (K : Dev nD × KI → ℕ) : sProp 𝕄 :=
  iprop((bigSep Finset.univ fun ck : Dev nD × KI => cellInv ER (Rd m ρ) (K ck) (kcell ck)) ∗ bigSep Finset.univ fun ck : Dev nD × KI => reached ER (kcell ck) 0)
instance known_persistent (K : Dev nD × KI → ℕ) : BI.Persistent (known m ρ K) := by unfold known; infer_instance

def G' (c : Dev nD) : sProp 𝕄 := iprop((∃ K, known m ρ K) ∗ places c ∗ pays c)

omit [FloatOps F] in
/-- A family over (device, peer) read at the peer instead. -/
theorem to_peer (Φ : Dev nD → Fin 5 → sProp 𝕄) :
    (bigSep Finset.univ fun c : Dev nD => bigSep Finset.univ fun p : Fin 5 => Φ c p) = bigSep Finset.univ fun c : Dev nD => bigSep Finset.univ fun p : Fin 5 => Φ (pr p c) p := by
  rw [bigSep_univ_comm Φ, bigSep_univ_comm fun (c : Dev nD) (p : Fin 5) => Φ (pr p c) p]
  exact bigSep_congr fun p _ => bigSep_univ_equiv (prEquiv p) fun c => Φ c p

omit [FloatOps F] in
/-- Each device's tokens go to the peers that pay them. -/
theorem toks_dealt : (bigSep Finset.univ fun c : Dev nD => (toks c : sProp 𝕄)) = bigSep Finset.univ fun c : Dev nD => pays c := by
  unfold toks pays
  simp only [bigSep_sep']
  rw [to_peer (F := F) fun c p => dutyTok ER (barCell c) 0 p, to_peer (F := F) fun c p => dutyTok ER (recvCell c p) 0 0]

theorem know_one (K : Dev nD × KI → ℕ) (c : Dev nD) : iprop(known m ρ K ∗ places c ∗ pays c) ⊢ (G' m ρ c : sProp 𝕄) := by
  unfold G'
  iintro ⟨#HK, Hp⟩
  isplitr; · iexists K; iexact HK
  iexact Hp

theorem share_known (K : Dev nD × KI → ℕ) :
    iprop(known m ρ K ∗ (bigSep Finset.univ fun c : Dev nD => iprop(places c ∗ pays c))) ⊢ (bigSep Finset.univ (G' m ρ) : sProp 𝕄) := by
  refine (sep_mono_left (BI.bigSep_of_persistent (Finset.univ : Finset (Dev nD)) (known m ρ K))).trans ?_
  rw [← bigSep_sep' (Finset.univ : Finset (Dev nD))]
  exact bigSep_mono fun c _ => know_one m ρ K c

theorem deal : (bigSep Finset.univ fun c : Dev nD => iprop(guarded m ρ c ∗ places c ∗ rounds0 c ∗ toks c) : sProp 𝕄) ⊢ bigSep Finset.univ (G' m ρ) := by
  rw [bigSep_sep', bigSep_sep', bigSep_sep', toks_dealt]
  unfold guarded rounds0
  rw [← bigSep_univ_prod (fun ck : Dev nD × KI => iprop(∃ κ : ℕ, cellInv ER (Rd m ρ) κ (kcell ck))),
    ← bigSep_univ_prod (fun ck : Dev nD × KI => (reached ER (kcell ck) 0 : sProp 𝕄))]
  iintro ⟨HI, Hat, #HR, Htok⟩
  ihave HK := (BI.bigSep_exists_pi Finset.univ (fun (ck : Dev nD × KI) (κ : ℕ) => (cellInv ER (Rd m ρ) κ (kcell ck) : sProp 𝕄))) $$ HI
  icases HK with ⟨%K, #HI⟩
  iapply (share_known m ρ K)
  isplitr
  · unfold known; isplitl; · iexact HI
    iexact HR
  rw [bigSep_sep']
  isplitl [Hat]; · iexact Hat
  iexact Htok

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => guard_own m ρ c).trans (bigSep_fupd _ _)).trans (BI.fupd_mono (deal m ρ))

/-! ## What each device may wait for -/

theorem pr_iff (p : Fin 5) {c d : Dev nD} : c = pr p d ↔ d = pr p c :=
  ⟨fun h => by rw [h, pr_pr], fun h => by rw [h, pr_pr]⟩

/-- What one signal of `d`'s owes `c`'s barrier. -/
theorem bar_at (c d : Dev nD) (p : Fin 5) : (tallyAt (barCell (pr p d)) () 1 : CellTallies nD τ sig Unit) (barCell c) () = if d = pr p c then 1 else 0 := by
  rw [tallyAt_apply]
  refine if_congr ⟨fun h => (pr_iff p).1 (congrArg (fun g : GSem nD τ sig => g.1.1) h.1), fun h => ⟨?_, rfl⟩⟩ rfl rfl
  rw [← (pr_iff p).2 h]
theorem bar_at_recv (c d : Dev nD) (p q : Fin 5) : (tallyAt (barCell (pr p d)) () 1 : CellTallies nD τ sig Unit) (recvCell c q) () = 0 := by
  rw [tallyAt_ne_cell (fun h => by cases congrArg Prod.snd h)]; rfl
theorem recv_at_bar (c d : Dev nD) (p : Fin 5) : (tallyAt (recvCell (pr p d) p) () N : CellTallies nD τ sig Unit) (barCell c) () = 0 := by
  rw [tallyAt_ne_cell (fun h => by cases congrArg Prod.snd h)]; rfl
/-- What one transfer of `d`'s owes `c`'s receive semaphore of peer `q`. -/
theorem recv_at (c d : Dev nD) (p q : Fin 5) :
    (tallyAt (recvCell (pr p d) p) () N : CellTallies nD τ sig Unit) (recvCell c q) () = if p = q then (if d = pr q c then N else 0) else 0 := by
  rw [tallyAt_apply]
  by_cases hpq : p = q
  · subst hpq; rw [if_pos rfl]
    refine if_congr ⟨fun h => (pr_iff p).1 (congrArg (fun g : GSem nD τ sig => g.1.1) h.1), fun h => ⟨?_, rfl⟩⟩ rfl rfl
    rw [← (pr_iff p).2 h]
  · rw [if_neg hpq, if_neg]
    rintro ⟨h, -⟩
    have h' : csem (some (true, q)) = csem (some (true, p)) := congrArg Prod.snd h
    have := csem_inj h'
    simp only [Option.some.injEq, Prod.mk.injEq, true_and] at this
    exact hpq this.symm

/-- What a device owes at the start, peer by peer. -/
theorem owed_sum (d : Dev nD) : O₀ d
    = (((((((((tallyAt (recvCell (pr 4 d) 4) () N + tallyAt (recvCell (pr 3 d) 3) () N) + tallyAt (recvCell (pr 2 d) 2) () N)
      + tallyAt (recvCell (pr 1 d) 1) () N) + tallyAt (recvCell (pr 0 d) 0) () N) + tallyAt (barCell (pr 4 d)) () 1) + tallyAt (barCell (pr 3 d)) () 1)
      + tallyAt (barCell (pr 2 d)) () 1) + tallyAt (barCell (pr 1 d)) () 1) + tallyAt (barCell (pr 0 d)) () 1) :=
  congrArg (fun t : CellTallies nD τ sig Unit => (((((((((t + tallyAt (recvCell (pr 3 d) 3) () N) + tallyAt (recvCell (pr 2 d) 2) () N)
      + tallyAt (recvCell (pr 1 d) 1) () N) + tallyAt (recvCell (pr 0 d) 0) () N) + tallyAt (barCell (pr 4 d)) () 1) + tallyAt (barCell (pr 3 d)) () 1)
      + tallyAt (barCell (pr 2 d)) () 1) + tallyAt (barCell (pr 1 d)) () 1) + tallyAt (barCell (pr 0 d)) () 1)) (zero_add _)

theorem owed_bar (d c : Dev nD) : O₀ d (barCell c) ()
    = (if d = pr 4 c then 1 else 0) + (if d = pr 3 c then 1 else 0) + (if d = pr 2 c then 1 else 0) + (if d = pr 1 c then 1 else 0) + (if d = pr 0 c then 1 else 0) := by
  rw [owed_sum]
  simp only [Pi.add_apply, Finsupp.add_apply]
  rw [recv_at_bar, recv_at_bar, recv_at_bar, recv_at_bar, recv_at_bar, bar_at, bar_at, bar_at, bar_at, bar_at]
  simp only [Nat.zero_add]

theorem owed_recv (d c : Dev nD) (q : Fin 5) : O₀ d (recvCell c q) () = if d = pr q c then N else 0 := by
  rw [owed_sum]
  simp only [Pi.add_apply, Finsupp.add_apply]
  rw [recv_at, recv_at, recv_at, recv_at, recv_at, bar_at_recv, bar_at_recv, bar_at_recv, bar_at_recv, bar_at_recv]
  fin_cases q <;> simp

theorem launch_bar (c : Dev nD) :
    tallyOn (barCell c) (launchCredit (Pipeline.owing O₀) 0 (barCell c)) = (tallyAt (barCell c) () 5 : CellTallies nD τ sig Unit) := by
  unfold tallyAt; refine congrArg _ (Finsupp.ext fun u => ?_); cases u
  rw [Pipeline.launchCredit_owing, Finsupp.single_eq_same, Finset.sum_congr rfl fun d _ => owed_bar d c]
  simp only [Finset.sum_add_distrib, Finset.sum_ite_eq', Finset.mem_univ, if_true]

theorem launch_recv (c : Dev nD) (q : Fin 5) :
    tallyOn (recvCell c q) (launchCredit (Pipeline.owing O₀) 0 (recvCell c q)) = (tallyAt (recvCell c q) () N : CellTallies nD τ sig Unit) := by
  unfold tallyAt; refine congrArg _ (Finsupp.ext fun u => ?_); cases u
  rw [Pipeline.launchCredit_owing, Finsupp.single_eq_same, Finset.sum_congr rfl fun d _ => owed_recv d c q, Finset.sum_ite_eq', if_pos (Finset.mem_univ _)]

/-- The receive semaphores, apart from the barrier. -/
theorem recvLoc_inj : Function.Injective fun p : Fin 5 => (SemLoc.dma (recvS p) : SemLoc sig) := by decide +kernel

omit [FloatOps F] in
theorem creds (c : Dev nD) : (Pipeline.launchCred O₀ c : sProp 𝕄) ⊢ credits c := by
  unfold Pipeline.launchCred credits
  rw [bigSep_univ_at _ (SemLoc.reg barS), launch_bar]
  refine sep_mono_right ((bigSep_subset (t := Finset.univ.map ⟨_, recvLoc_inj⟩) fun s hs => ?_).trans ?_)
  · obtain ⟨p, -, rfl⟩ := Finset.mem_map.1 hs
    exact Finset.mem_erase.2 ⟨fun h => (by cases h), Finset.mem_univ _⟩
  · rw [bigSep_map]
    exact bigSep_mono fun p _ => Entails.of_eq (congrArg cred (launch_recv c p))

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold start G' known env
  iintro ⟨-, #Hlev, Hcr, -, ⟨%K, #HI, #HR⟩, Hat, Htok⟩
  ihave Hc := (creds (F := F) c) $$ Hcr
  imodintro
  isplitl
  · isplitr
    · iexists K
      isplitr; · iexact HI
      isplitr; · iexact HR
      iexact Hlev
    isplitl [Hat]; · iexact Hat
    isplitl [Htok]; · iexact Htok
    iexact Hc
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  rw [zeros_eq]
  iintro ⟨Hr, HzB, HzO⟩
  isplitl [HzB]; · iexact HzB
  isplitl [HzO]; · iexact HzO
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-! ## The run -/

/-- What window `w`'s array holds at the end. -/
def atEnd (c : Dev nD) (w : Fin cfg0.W) : Buf (Elt F) ((cfg0.win w).arr.view.loc (c : Thread nD τ)) := (dats m ρ 0 c).arrAt w cfg0.N

set_option maxRecDepth 8000 in
/-- From any memory with every counter at zero, `@main` on all devices ends, each window's array as the body left it and
    every counter at zero again. -/
theorem run_all : θ_run defs (onTc (τ := τ) (main (F := F))) (s₀ m ρ)
    (fun r => (∀ (c : Dev nD) (w : Fin cfg0.W), r.2.mem ((cfg0.win w).arr.view.loc (c : Thread nD τ)) = atEnd m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array ends as it began. -/
theorem atEnd_arg (c : Dev nD) : atEnd m ρ c (0 : Fin 2) = (s₀ m ρ).mem (win0_0.arr.view.loc (c : Thread nD τ)) :=
  (dats (F := F) m ρ 0 c).arrAt_in (0 : Fin 2) rfl _

theorem atEnd_read (c : Dev nD) : (win0_1.blk (0 : Fin 1)).view.read (Elt F) (atEnd m ρ c (1 : Fin 2)) = oFull m ρ c := by
  unfold atEnd
  rw [show cfg0.N = ((0 : Fin 1) : Fin cfg0.N).val + 1 from rfl, (dats m ρ 0 c).arrAt_succ (1 : Fin 2) (0 : Fin 1),
    show (cfg0.win (1 : Fin 2)).flush (0 : Fin 1) = true from by decide, if_pos rfl]
  exact View.read_write_univ _ _

/-- The result's array ends as the device's output buffer. -/
theorem atEnd_res (c : Dev nD) : atEnd m ρ c (1 : Fin 2) = oFull m ρ c := by
  have hz : (fun a => (win0_1.index (0 : Fin 1)) a * main_v1.ty.shape.size a) = fun _ => 0 := funext fun a => by fin_cases a <;> decide
  exact (Memref.read_access_unit_zero (Elt F) main_v1 hz (fun a => by fin_cases a <;> decide) _).symm.trans (atEnd_read m ρ c)

/-- The run, read at the argument and the result. -/
theorem run_main : θ_run defs (onTc (τ := τ) (main (F := F))) (s₀ m ρ)
    (fun r => (∀ c : Dev nD, r.2.mem ((c : Thread nD τ).loc main_v1) = oFull m ρ c ∧ r.2.mem ((c : Thread nD τ).loc main_arg0) = m ((c : Thread nD τ).loc main_arg0))
      ∧ r.2.sem = fun _ => 0) :=
  (θ_run defs _ _).mono (fun _ h => ⟨fun c => ⟨(h.1 c (1 : Fin 2)).trans (atEnd_res m ρ c), (h.1 c (0 : Fin 2)).trans (atEnd_arg m ρ c)⟩, h.2⟩) (run_all m ρ)

end Cert.TopK

end
-- ==== Proof.Frames.lean ====
/-
The kernel's frames, at bit patterns and at real values, and the reference's: each ends with its argument as it was and
every counter at zero.
-/
module

public import proofs.«01_k».proof.Defs
public import proofs.«01_k».proof.Proof.Launch
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

set_option maxRecDepth 8000

noncomputable section

namespace Cert.TopK

open Idealize.ShloMosaic Idealize.SL.Sem

/-- The run read at the argument alone, for any float values. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0) :=
  (θ_run Cert.KernelIdeal.defs _ _).mono (fun _ h => ⟨fun c => (h.1 c).2, h.2⟩) (run_main m ρ)

/-- The two programs' kernels are one body. -/
theorem bodies_eq : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) => rfl
  | ⟨_ + 1, h⟩, _ => exact absurd h (Nat.not_lt.2 (Nat.le_add_left _ _))
theorem tables_eq : Cert.Kernel.defs (F := Bits) = Cert.KernelIdeal.defs (F := Bits) :=
  congrArg (Pipeline.defs Cert.KernelIdeal.pcfgs) bodies_eq

theorem frame_kernel : Cert.quiescent_Kernel (hKernel := Cert.Kernel.Gen.facts) := fun m ρ _ => by
  rw [tables_eq]
  exact frame_any (F := Bits) m ρ

theorem frame_ideal : Cert.quiescent_KernelIdeal (hKernelIdeal := Cert.KernelIdeal.Gen.facts) := fun m ρ _ => frame_any (F := Ideal) m ρ

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.TopK

end
-- ==== Proof.Tops.lean ====
/-
The largest entries of a finite family in descending order, by counting: entry `k` is at least `θ` exactly when more than
`k` members of the family are. Three facts follow: the list is determined by the counts; sorting gives it; and the
compare-exchange network on two such lists of sixteen gives the one of the two families together.
-/
module

public import Mathlib.Data.Fintype.BigOperators
public import Mathlib.Data.Fintype.Sum
public import Mathlib.Logic.Equiv.Fin.Basic
public import Mathlib.Order.Fin.Basic
public import Mathlib.Order.Interval.Finset.Fin

@[expose] public section

namespace Cert.TopK

variable {α ι κ : Type} [LinearOrder α] [Fintype ι] [Fintype κ]

/-! ## Counting -/

/-- How many members of a family are at least `θ`. -/
def atLeast (f : ι → α) (θ : α) : ℕ := (Finset.univ.filter fun i => θ ≤ f i).card

theorem atLeast_sum (f : ι → α) (θ : α) : atLeast f θ = ∑ i, if θ ≤ f i then 1 else 0 := Finset.card_filter _ _

theorem atLeast_perm (e : ι ≃ κ) (f : κ → α) (θ : α) : atLeast (fun i => f (e i)) θ = atLeast f θ := by
  rw [atLeast_sum, atLeast_sum]
  exact Equiv.sum_comp e fun i => if θ ≤ f i then 1 else 0

/-- Members counted block by block. -/
theorem atLeast_blocks (f : ι × κ → α) (θ : α) : atLeast f θ = ∑ i, atLeast (fun k => f (i, k)) θ := by
  simp only [atLeast_sum]
  exact Fintype.sum_prod_type _

/-! ## The descending list of a count -/

/-- `t` is the descending list whose counts are `p`. -/
def Tops {n : ℕ} (p : α → ℕ) (t : Fin n → α) : Prop := ∀ (θ : α) (k : Fin n), θ ≤ t k ↔ k.val < p θ

theorem Tops.unique {n : ℕ} {p : α → ℕ} {t u : Fin n → α} (ht : Tops p t) (hu : Tops p u) : t = u :=
  funext fun k => le_antisymm ((hu _ k).2 ((ht _ k).1 le_rfl)) ((ht _ k).2 ((hu _ k).1 le_rfl))

theorem Tops.head {n l : ℕ} (h : l ≤ n) {p : α → ℕ} {t : Fin n → α} (ht : Tops p t) : Tops p fun k : Fin l => t (k.castLE h) :=
  fun θ k => ht θ (k.castLE h)

/-- A descending family lists its own members. -/
theorem tops_antitone {n : ℕ} {t : Fin n → α} (ht : Antitone t) : Tops (atLeast t) t := by
  intro θ k
  constructor
  · intro h
    have hs : Finset.Iic k ⊆ Finset.univ.filter fun i => θ ≤ t i := fun i hi =>
      Finset.mem_filter.2 ⟨Finset.mem_univ i, h.trans (ht (Finset.mem_Iic.1 hi))⟩
    have hc := Finset.card_le_card hs
    rw [Fin.card_Iic] at hc
    exact hc
  · intro h
    by_contra hlt
    have hs : (Finset.univ.filter fun i => θ ≤ t i) ⊆ Finset.Iio k := fun i hi =>
      Finset.mem_Iio.2 (lt_of_not_ge fun hki => hlt ((Finset.mem_filter.1 hi).2.trans (ht hki)))
    have hc := Finset.card_le_card hs
    rw [Fin.card_Iio] at hc
    exact absurd h (Nat.not_lt.2 hc)

/-! ## The network -/

section Network

variable {β γ : Type}

/-- Lane `k` is the lower of its pair at distance `d`; and the other lane of the pair. -/
def isLow (d : ℕ) (k : Fin 16) : Bool := k.val / d % 2 == 0
def mate (d : Fin 16) (k : Fin 16) : Fin 16 := if isLow d.val k then k + d else k - d

/-- One layer: the lower lane of a pair gets `hi` of the two, the upper `lo`. -/
def step (hi lo : β → β → β) (d : Fin 16) (x : Fin 16 → β) (k : Fin 16) : β :=
  if isLow d.val k then hi (x k) (x (mate d k)) else lo (x k) (x (mate d k))

/-- The network: pairwise `hi` of one list and the other reversed, then the four layers. -/
def net (hi lo : β → β → β) (a b : Fin 16 → β) : Fin 16 → β :=
  step hi lo 1 (step hi lo 2 (step hi lo 4 (step hi lo 8 fun k => hi (a k) (b k.rev))))

theorem step_map (φ : β → γ) {hi lo : β → β → β} {hi' lo' : γ → γ → γ} (hh : ∀ x y, φ (hi x y) = hi' (φ x) (φ y))
    (hl : ∀ x y, φ (lo x y) = lo' (φ x) (φ y)) (d : Fin 16) (x : Fin 16 → β) :
    (fun k => φ (step hi lo d x k)) = step hi' lo' d fun k => φ (x k) := by
  funext k; unfold step; split
  · exact hh _ _
  · exact hl _ _

theorem net_map (φ : β → γ) {hi lo : β → β → β} {hi' lo' : γ → γ → γ} (hh : ∀ x y, φ (hi x y) = hi' (φ x) (φ y))
    (hl : ∀ x y, φ (lo x y) = lo' (φ x) (φ y)) (a b : Fin 16 → β) :
    (fun k => φ (net hi lo a b k)) = net hi' lo' (fun k => φ (a k)) fun k => φ (b k) := by
  unfold net
  rw [step_map φ hh hl, step_map φ hh hl, step_map φ hh hl, step_map φ hh hl]
  simp only [hh]

/-- On lists of truths followed by falsehoods the network adds the lengths. -/
theorem net_bool : ∀ (p q : Fin 17) (k : Fin 16),
    net (fun x y => x || y) (fun x y => x && y) (fun i => decide (i.val < p.val)) (fun i => decide (i.val < q.val)) k = decide (k.val < p.val + q.val) := by
  decide +kernel

end Network

/-- Two lists of sixteen through the network: the list of both families together. -/
theorem tops_net {p q : α → ℕ} {a b : Fin 16 → α} (ha : Tops p a) (hb : Tops q b) : Tops (fun θ => p θ + q θ) (net max min a b) := by
  intro θ k
  have hm := congrFun (net_map (fun x : α => decide (θ ≤ x)) (hi := max) (lo := min) (hi' := fun x y => x || y) (lo' := fun x y => x && y)
    (fun x y => by rw [← Bool.decide_or]; exact decide_eq_decide.2 le_max_iff) (fun x y => by rw [← Bool.decide_and]; exact decide_eq_decide.2 le_min_iff) a b) k
  have ea : (fun i => decide (θ ≤ a i)) = fun i : Fin 16 => decide (i.val < (⟨min (p θ) 16, by omega⟩ : Fin 17).val) :=
    funext fun i => decide_eq_decide.2 ((ha θ i).trans (by have := i.isLt; simp only; omega))
  have eb : (fun i => decide (θ ≤ b i)) = fun i : Fin 16 => decide (i.val < (⟨min (q θ) 16, by omega⟩ : Fin 17).val) :=
    funext fun i => decide_eq_decide.2 ((hb θ i).trans (by have := i.isLt; simp only; omega))
  rw [ea, eb, net_bool] at hm
  exact (decide_eq_decide.1 hm).trans (by have := k.isLt; simp only; omega)

/-! ## Taking the maximum away, again and again -/

section Peel

variable {n : ℕ} [OrderBot α]

/-- The largest member of a family, or the least value. -/
def top (f : Fin n → α) : α := Finset.univ.sup f
/-- The family with its largest members set to the least value; and that repeated. -/
def peel (f : Fin n → α) : Fin n → α := fun i => if f i = top f then ⊥ else f i
def peels (f : Fin n → α) : ℕ → Fin n → α
  | 0 => f
  | k + 1 => peel (peels f k)

/-- A family from which exactly the members equal to the first `k` of the descending list are gone has the next as its largest. -/
theorem top_left {l : ℕ} (hl : l ≤ n) {f t g : Fin n → α} (e : Equiv.Perm (Fin n)) (hf : ∀ i, f i = t (e i)) (ht : Antitone t)
    (hs : ∀ i j : Fin n, i < j → j.val < l → t j < t i) (k : ℕ) (hk : k < l)
    (hg : ∀ i, g i = if ∃ j : Fin n, j.val < k ∧ f i = t j then ⊥ else f i) : top g = t ⟨k, hk.trans_le hl⟩ := by
  refine le_antisymm (Finset.sup_le fun i _ => ?_) ?_
  · rw [hg i]
    split
    · exact bot_le
    · rename_i hno
      rw [hf i]
      refine ht ?_
      rw [Fin.le_def]
      by_contra hlt
      exact hno ⟨e i, Nat.lt_of_not_le hlt, hf i⟩
  · have hno : ¬ ∃ j : Fin n, j.val < k ∧ f (e.symm ⟨k, hk.trans_le hl⟩) = t j := by
      rintro ⟨j, hj, hj'⟩
      rw [hf, Equiv.apply_symm_apply] at hj'
      exact absurd hj' (hs j _ hj hk).ne
    have hi : g (e.symm ⟨k, hk.trans_le hl⟩) = t ⟨k, hk.trans_le hl⟩ := by
      rw [hg, if_neg hno, hf, Equiv.apply_symm_apply]
    rw [← hi]
    exact Finset.le_sup (Finset.mem_univ _)

/-- After `k` rounds the members equal to the first `k` of the descending list are gone. -/
theorem peels_gone {l : ℕ} (hl : l ≤ n) {f t : Fin n → α} (e : Equiv.Perm (Fin n)) (hf : ∀ i, f i = t (e i)) (ht : Antitone t)
    (hs : ∀ i j : Fin n, i < j → j.val < l → t j < t i) (k : ℕ) (hk : k < l) :
    ∀ i, peels f k i = if ∃ j : Fin n, j.val < k ∧ f i = t j then ⊥ else f i := by
  induction k with
  | zero =>
    intro i
    rw [if_neg (fun ⟨j, hj, _⟩ => absurd hj (Nat.not_lt_zero _))]; rfl
  | succ k ih =>
    have hk' : k < l := Nat.lt_of_succ_lt hk
    have h1 := ih hk'
    have h2 := top_left hl e hf ht hs k hk' h1
    intro i
    show (if peels f k i = top (peels f k) then ⊥ else peels f k i) = _
    rw [h2, h1 i]
    by_cases hold : ∃ j : Fin n, j.val < k ∧ f i = t j
    · have hold' : ∃ j : Fin n, j.val < k + 1 ∧ f i = t j := hold.imp fun j h => ⟨Nat.lt_succ_of_lt h.1, h.2⟩
      rw [if_pos hold, if_pos hold', ite_self]
    · rw [if_neg hold]
      by_cases hnow : f i = t ⟨k, hk'.trans_le hl⟩
      · have hnew : ∃ j : Fin n, j.val < k + 1 ∧ f i = t j := ⟨⟨k, hk'.trans_le hl⟩, Nat.lt_succ_self k, hnow⟩
        rw [if_pos hnow, if_pos hnew]
      · have hnot : ¬ ∃ j : Fin n, j.val < k + 1 ∧ f i = t j := by
          rintro ⟨j, hj, hj'⟩
          rcases Nat.lt_succ_iff_lt_or_eq.1 hj with h | h
          · exact hold ⟨j, h, hj'⟩
          · exact hnow (by rw [hj']; exact congrArg t (Fin.ext h))
        rw [if_neg hnow, if_neg hnot]

/-- The maxima met on the way are the first of the descending list. -/
theorem top_peels {l : ℕ} (hl : l ≤ n) {f t : Fin n → α} (e : Equiv.Perm (Fin n)) (hf : ∀ i, f i = t (e i)) (ht : Antitone t)
    (hs : ∀ i j : Fin n, i < j → j.val < l → t j < t i) (k : ℕ) (hk : k < l) : top (peels f k) = t ⟨k, hk.trans_le hl⟩ :=
  top_left hl e hf ht hs k hk (peels_gone hl e hf ht hs k hk)

/-- So the first `l` maxima are the top `l` of the family. -/
theorem tops_peels {l : ℕ} (hl : l ≤ n) {f t : Fin n → α} (e : Equiv.Perm (Fin n)) (hf : ∀ i, f i = t (e i)) (ht : Antitone t)
    (hs : ∀ i j : Fin n, i < j → j.val < l → t j < t i) : Tops (atLeast f) fun k : Fin l => top (peels f k.val) := by
  have h1 : (fun k : Fin l => top (peels f k.val)) = fun k => t (k.castLE hl) := funext fun k => top_peels hl e hf ht hs k.val k.isLt
  have h2 : atLeast f = atLeast t := funext fun θ => by
    rw [← atLeast_perm e t θ]; exact congrArg (atLeast · θ) (funext hf)
  rw [h1, h2]
  exact (tops_antitone ht).head hl

end Peel

end Cert.TopK
-- ==== Proof.Rows.lean ====
/-
The kernel's values at the extended reals, row by row: the row maximum is the largest member of the row, a cut is a peel, and
the comparison network of two blocks is, in every row, the network of Proof/Tops.lean on the two rows.
-/
module

public import proofs.«01_k».proof.Proof.Values
public import proofs.«01_k».proof.Proof.Tops
public import Idealize.ShloMosaic.Lib.ValueIdx
public import Idealize.ShloMosaic.PureOps.Ideal.Laws
public import Idealize.ShloMosaic.Lib.KernelVsHost

@[expose] public section

set_option maxRecDepth 8000

noncomputable section

namespace Cert.TopK

open Cert.KernelIdeal Cert.KernelIdeal.Gen
open Idealize.ShloMosaic Idealize.ShloMosaic.ValueIdx Idealize.SL.Sem

/-! ## Words read at the extended reals -/

theorem least_word : (Ideal.ofBits .f32 0xFF800000#32 : EReal) = ⊥ := by simp [Ideal.ofBits, Ideal.ieee]

theorem select_decide {α : Type} (p : Prop) [Decidable p] (a b : α) : Scalar.select (BitVec.ofBool (decide p)) a b = if p then a else b := by
  by_cases h : p
  · rw [if_pos h, decide_eq_true h]; exact select_one a b
  · rw [if_neg h, decide_eq_false h]; exact select_zero a b

/-! ## The picks -/

/-- Row `r` of a block. -/
def row (v : FVec Ideal S128x4096 .f32) (r : Fin 128) : Fin 4096 → EReal := fun j => v (ix2 r j)

theorem lift_row (r : Fin 128) (j : Fin 4096) : reduces_S128x4096_S128.lift (ix1 r) j = (ix2 r j : S128x4096.Idx) := by
  funext a
  match a with
  | ⟨0, _⟩ => rfl
  | ⟨1, _⟩ => rfl

theorem rowMax_row (v : FVec Ideal S128x4096 .f32) (r : Fin 128) (u : Fin 1) : rowMax v (ix2 r u) = top (row v r) := by
  refine (shapeCast_a_a1_apply _ shapeCasts_S128_S128x1 r u).trans ?_
  refine (Ideal.multiReduction_maximumf_single v 0xFF800000#32 reduces_S128x4096_S128 (.inl rfl) rfl (ix1 r)).trans ?_
  show Finset.univ.fold max (Ideal.ofBits .f32 0xFF800000#32) (fun j : Fin 4096 => v (reduces_S128x4096_S128.lift (ix1 r) j)) = _
  rw [least_word]
  simp only [lift_row]
  rfl

theorem row_cut (v : FVec Ideal S128x4096 .f32) (r : Fin 128) : row (cut v) r = peel (row v r) := by
  funext j
  have hb : broadcastTo S128x4096 (rowMax v) broadcasts_S128x1_S128x4096 (ix2 r j) = top (row v r) := by
    refine (broadcastTo_apply _ _ (ix2 r j) (ix2 r (0 : Fin 1)) fun a => ?_).trans (rowMax_row v r 0)
    match a with
    | ⟨0, _⟩ => rfl
    | ⟨1, _⟩ => rfl
  show Scalar.select (Ideal.cmp .oeq (v (ix2 r j)) (broadcastTo S128x4096 (rowMax v) broadcasts_S128x1_S128x4096 (ix2 r j)))
    (Ideal.ofBits .f32 0xFF800000#32) (v (ix2 r j)) = _
  rw [hb, least_word]
  exact select_decide _ _ _

theorem row_cuts (v : FVec Ideal S128x4096 .f32) (r : Fin 128) (k : ℕ) : row (cuts v k) r = peels (row v r) k := by
  induction k with
  | zero => rfl
  | succ k ih => exact (row_cut (cuts v k) r).trans (congrArg peel ih)

/-- Candidate `k` of a row is the largest member left after `k` peels. -/
theorem pick_row (v : FVec Ideal S128x4096 .f32) (r : Fin 128) (k : Fin 16) : pick v (ix2 r k) = top (peels (row v r) k.val) := by
  show rowMax (cuts v k.val) (ix2 r (0 : Fin 1)) = _
  rw [rowMax_row, row_cuts]

/-! ## The network -/

/-- Row `r` of a block of candidates. -/
def row16 (x : FVec Ideal S128x16 .f32) (r : Fin 128) : Fin 16 → EReal := fun k => x (ix2 r k)

theorem lower_row {d : BitVec 32} {e : Fin 16} (hd : ∀ k : Fin 16, IntOp.cmpi .eq (IntOp.andi (BitVec.ofNat 32 k.val) d) 0#32 = BitVec.ofBool (isLow e.val k))
    (r : Fin 128) (k : Fin 16) : lower d (ix2 r k) = BitVec.ofBool (isLow e.val k) := by
  show IntOp.cmpi .eq (IntOp.andi (BitVec.ofNat 32 (0 * 16 + k.val)) d) 0#32 = _
  rw [Nat.zero_mul, Nat.zero_add]
  exact hd k

theorem rotate_row (d : BitVec 32) (x : FVec Ideal S128x16 .f32) (r : Fin 128) (k l : Fin 16) (h : l.val = (k.val + 16 - d.toNat % 16) % 16) :
    dynamicRotate 1 d none x rotates_S128x16_d1 (ix2 r k) = x (ix2 r l) :=
  dynamicRotate_apply 1 d x rotates_S128x16_d1 (ix2 r k) (ix2 r l) fun b => by
    match b with
    | ⟨0, _⟩ => rfl
    | ⟨1, _⟩ => exact h

/-- What a pair of rotation amounts must satisfy to fetch the other lane of the pair at distance `e`. -/
def Fetches (d d' : BitVec 32) (e : Fin 16) : Prop :=
  ∀ k : Fin 16, IntOp.cmpi .eq (IntOp.andi (BitVec.ofNat 32 k.val) d) 0#32 = BitVec.ofBool (isLow e.val k)
    ∧ (mate e k).val = (k.val + 16 - (if isLow e.val k then d' else d).toNat % 16) % 16

instance (d d' : BitVec 32) (e : Fin 16) : Decidable (Fetches d d' e) := inferInstanceAs (Decidable (∀ k : Fin 16, _))

theorem partner_row {d d' : BitVec 32} {e : Fin 16} (h : Fetches d d' e) (x : FVec Ideal S128x16 .f32) (r : Fin 128) (k : Fin 16) :
    partner d d' x (ix2 r k) = x (ix2 r (mate e k)) := by
  have hm := (h k).2
  show Scalar.select (lower d (ix2 r k)) (dynamicRotate 1 d' none x rotates_S128x16_d1 (ix2 r k)) (dynamicRotate 1 d none x rotates_S128x16_d1 (ix2 r k)) = _
  rw [lower_row (fun k => (h k).1)]
  cases hl : isLow e.val k with
  | true => rw [hl, if_pos rfl] at hm; exact (select_one _ _).trans (rotate_row d' x r k _ hm)
  | false => rw [hl, if_neg Bool.false_ne_true] at hm; exact (select_zero _ _).trans (rotate_row d x r k _ hm)

theorem layer_row {d d' : BitVec 32} {e : Fin 16} (h : Fetches d d' e) (x : FVec Ideal S128x16 .f32) (r : Fin 128) :
    row16 (layer d d' x) r = step max min e (row16 x r) := by
  funext k
  show Scalar.select (lower d (ix2 r k)) (max (x (ix2 r k)) (partner d d' x (ix2 r k))) (min (x (ix2 r k)) (partner d d' x (ix2 r k))) = _
  rw [lower_row (fun k => (h k).1), partner_row h]
  unfold step row16
  cases hl : isLow e.val k with
  | true => exact select_one _ _
  | false => exact select_zero _ _

theorem fetches1 : Fetches 1#32 15#32 1 := by decide +kernel
theorem fetches2 : Fetches 2#32 14#32 2 := by decide +kernel
theorem fetches4 : Fetches 4#32 12#32 4 := by decide +kernel
theorem fetches8 : Fetches 8#32 8#32 8 := by decide +kernel
theorem mates : ∀ k : Fin 16, mate 8 (mate 4 (mate 2 (mate 1 k))) = k.rev := by decide +kernel

theorem turn_row (x : FVec Ideal S128x16 .f32) (r : Fin 128) (k : Fin 16) : turn x (ix2 r k) = x (ix2 r k.rev) := by
  unfold turn
  rw [partner_row fetches1, partner_row fetches2, partner_row fetches4, partner_row fetches8, mates]

theorem fold16_row (a b : FVec Ideal S128x16 .f32) (r : Fin 128) : row16 (fold16 a b) r = net max min (row16 a r) (row16 b r) := by
  unfold fold16 net
  rw [layer_row fetches1, layer_row fetches2, layer_row fetches4, layer_row fetches8]
  refine congrArg (fun x => step max min 1 (step max min 2 (step max min 4 (step max min 8 x)))) (funext fun k => ?_)
  show max (a (ix2 r k)) (turn b (ix2 r k)) = _
  rw [turn_row]
  rfl

end Cert.TopK

end
-- ==== Proof.Sorting.lean ====
/-
The two comparators at the extended reals are the strict order, so each sort lists a row in ascending order. Read from the
right this is a descending list of the row; the precondition says its first sixteen members are strictly descending.
-/
module

public import proofs.«01_k».proof.Proof.Tops
public import proofs.«01_k».proof.Proof.Gen.ReferenceIdeal
public import proofs.«01_k».proof.Proof.Gen.Pre_top_distinct_KernelIdeal
public import Idealize.ShloMosaic.Lib.ValueIdx
public import Idealize.ShloMosaic.Lib.ValueLayout
public import Idealize.ShloMosaic.Lib.SortFacts

@[expose] public section

set_option maxRecDepth 8000

noncomputable section

namespace Cert.TopK

open Idealize.ShloMosaic Idealize.ShloMosaic.ValueIdx Idealize.SL.Sem

/-! ## The comparators -/

/-- A comparator first replaces a zero by zero and a value different from itself by a third: at the extended reals neither
changes anything. -/
theorem same_value (x z w : EReal) : Scalar.select (Ideal.cmp .une x x) w (Scalar.select (Ideal.cmp .oeq x z) z x) = x := by
  have h1 : Ideal.cmp .une x x = 0#1 := by
    show BitVec.ofBool (decide (x ≠ x)) = 0#1
    rw [decide_eq_false (fun h => h rfl)]; rfl
  rw [h1]
  refine (select_zero _ _).trans ?_
  by_cases h : x = z
  · have h2 : Ideal.cmp .oeq x z = 1#1 := by
      show BitVec.ofBool (decide (x = z)) = 1#1
      rw [decide_eq_true h]; rfl
    rw [h2]; exact (select_one _ _).trans h.symm
  · have h2 : Ideal.cmp .oeq x z = 0#1 := by
      show BitVec.ofBool (decide (x = z)) = 0#1
      rw [decide_eq_false h]; rfl
    rw [h2]; exact select_zero _ _

theorem before_iff (x y z w : EReal) :
    (Ideal.cmpTotal .lt (Scalar.select (Ideal.cmp .une x x) w (Scalar.select (Ideal.cmp .oeq x z) z x))
      (Scalar.select (Ideal.cmp .une y y) w (Scalar.select (Ideal.cmp .oeq y z) z y)) == 1#1) = decide (x < y) := by
  rw [same_value, same_value]
  show (BitVec.ofBool (decide (x < y)) == 1#1) = decide (x < y)
  cases decide (x < y) <;> rfl

/-! ## The sorted row -/

theorem along_row {n l : ℕ} (r : Fin n) (j k : Fin l) (h : 1 < 2) :
    Shape.Idx.along (s := ⟨2, ![n, l]⟩) (ix2 r j) ⟨1, h⟩ k = ix2 r k := by
  funext a
  match a with
  | ⟨0, _⟩ => rfl
  | ⟨1, _⟩ => rfl

/-- A sort by the strict order of `f` puts `f` in ascending order. -/
theorem sorted_mono {n : ℕ} (f : Fin n → EReal) : Monotone fun k => f (sortedFrom (fun a b => decide (f a < f b)) k) := by
  intro i j hij
  rcases hij.lt_or_eq with h | h
  · have := sortedFrom_noInversion (fun a b => decide (f a < f b)) (fun a b => decide (f a < f b))
      (fun a b hab => decide_eq_false (not_lt.2 (of_decide_eq_true hab).le)) (fun a b hab => hab)
      (fun a b c hab hbc => decide_eq_false (not_lt.2 ((not_lt.1 (of_decide_eq_false hbc)).trans (not_lt.1 (of_decide_eq_false hab))))) i j h
    exact not_lt.1 (of_decide_eq_false this)
  · rw [h]

/-- Its positions, as a permutation. -/
def order {n : ℕ} (f : Fin n → EReal) : Equiv.Perm (Fin n) :=
  Equiv.ofBijective (sortedFrom fun a b => decide (f a < f b)) ⟨sortedFrom_injective _, sortedFrom_surjective _⟩

theorem order_mono {n : ℕ} (f : Fin n → EReal) : Monotone fun k => f (order f k) := sorted_mono f

/-- The family in descending order. -/
def descent {n : ℕ} (f : Fin n → EReal) : Fin n → EReal := fun k => f (order f k.rev)

theorem descent_anti {n : ℕ} (f : Fin n → EReal) : Antitone (descent f) := fun _ _ hij => order_mono f (Fin.rev_le_rev.2 hij)

theorem eq_descent {n : ℕ} (f : Fin n → EReal) (i : Fin n) : f i = descent f (((order f).symm.trans Fin.revPerm) i) := by
  show f i = f (order f (Fin.rev (Fin.rev ((order f).symm i))))
  rw [Fin.rev_rev, Equiv.apply_symm_apply]

/-- A sort of the rows by the strict order, read at an index. -/
theorem sorted_row {n l : ℕ} (cmp : EReal → EReal → BitVec 1) (hc : ∀ a b, (cmp a b == 1#1) = decide (a < b))
    (x : (⟨2, ![n, l]⟩ : Shape).Idx → EReal) (r : Fin n) (k : Fin l) :
    Host.sort ⟨2, ![n, l]⟩ 1 cmp x (ix2 r k) = x (ix2 r (order (fun j => x (ix2 r j)) k)) := by
  unfold Host.sort
  rw [dif_pos (show 1 < (⟨2, ![n, l]⟩ : Shape).rank from Nat.one_lt_two)]
  simp only [hc]
  have hR : (fun a b : Fin l => decide (x (Shape.Idx.along (s := ⟨2, ![n, l]⟩) (ix2 r k) ⟨1, Nat.one_lt_two⟩ a)
      < x (Shape.Idx.along (s := ⟨2, ![n, l]⟩) (ix2 r k) ⟨1, Nat.one_lt_two⟩ b))) = fun a b => decide (x (ix2 r a) < x (ix2 r b)) :=
    funext fun a => funext fun b => by rw [along_row, along_row]
  have hp := congrArg (fun R : Fin l → Fin l → Bool => sortedFrom R k) hR
  exact congrArg x ((along_row r k _ Nat.one_lt_two).trans (congrArg (fun j : Fin l => (ix2 r j : (⟨2, ![n, l]⟩ : Shape).Idx)) hp))

/-- The second operand of a sort of pairs by the strict order of the first. -/
theorem carried_row {n l : ℕ} {β : Type} (cmp : EReal × β → EReal × β → BitVec 1) (hc : ∀ a b, (cmp a b == 1#1) = decide (a.1 < b.1))
    (x : (⟨2, ![n, l]⟩ : Shape).Idx → EReal) (y : (⟨2, ![n, l]⟩ : Shape).Idx → β) (r : Fin n) (k : Fin l) :
    (Host.sort2 ⟨2, ![n, l]⟩ 1 cmp x y).2 (ix2 r k) = y (ix2 r (order (fun j => x (ix2 r j)) k)) := by
  unfold Host.sort2
  rw [dif_pos (show 1 < (⟨2, ![n, l]⟩ : Shape).rank from Nat.one_lt_two)]
  simp only [hc]
  have hR : (fun a b : Fin l => decide (x (Shape.Idx.along (s := ⟨2, ![n, l]⟩) (ix2 r k) ⟨1, Nat.one_lt_two⟩ a)
      < x (Shape.Idx.along (s := ⟨2, ![n, l]⟩) (ix2 r k) ⟨1, Nat.one_lt_two⟩ b))) = fun a b => decide (x (ix2 r a) < x (ix2 r b)) :=
    funext fun a => funext fun b => by rw [along_row, along_row]
  have hp := congrArg (fun R : Fin l → Fin l → Bool => sortedFrom R k) hR
  exact congrArg y ((along_row r k _ Nat.one_lt_two).trans (congrArg (fun j : Fin l => (ix2 r j : (⟨2, ![n, l]⟩ : Shape).Idx)) hp))

/-! ## The precondition -/

section Pre

open Cert.Pre_top_distinct_KernelIdeal Cert.Pre_top_distinct_KernelIdeal.Gen

/-- A row of one device's block. -/
def blockRow (x : FVec Ideal S512x4096 .f32) (r : Fin 512) : Fin 4096 → EReal := fun j => x (ix2 r j)

theorem sort_row (x : FVec Ideal S512x4096 .f32) (r : Fin 512) (k : Fin 4096) :
    Host.sort S512x4096 1 (comparator_f32_d1 (F := Ideal)) x (ix2 r k) = blockRow x r (order (blockRow x r) k) :=
  sorted_row (comparator_f32_d1 (F := Ideal)) (fun _ _ => before_iff _ _ _ _) x r k

/-- The precondition's reading: the first sixteen of the descending row are strictly descending. -/
theorem descent_strict {x : FVec Ideal S512x4096 .f32} (h : fn (F := Ideal) x = fun _ => 1#1) (r : Fin 512) :
    ∀ i j : Fin 4096, i < j → j.val < 16 → descent (blockRow x r) j < descent (blockRow x r) i := by
  have hstep : ∀ k : Fin 15, ∀ a b : Fin 4096, a.val = 4081 + k.val → b.val = 4080 + k.val →
      blockRow x r (order (blockRow x r) b) < blockRow x r (order (blockRow x r) a) := by
    intro k a b ha hb
    have hk := congrFun h (ix2 r k)
    have e1 : extractStridedSlice S512x15 ![0, 1] (extractStridedSlice S512x16 ![0, 4080] (Host.sort S512x4096 1 (comparator_f32_d1 (F := Ideal)) x)
        slices_S512x4096_S512x16_0_4080) slices_S512x16_S512x15_0_1 (ix2 r k) = blockRow x r (order (blockRow x r) a) := by
      refine Eq.trans ?_ (sort_row x r a)
      refine (extractStridedSlice_apply _ _ _ (ix2 r k) (ix2 r ⟨k.val + 1, by omega⟩ : S512x16.Idx) ?_).trans
        (extractStridedSlice_apply _ _ _ _ (ix2 r a : S512x4096.Idx) ?_)
      · intro c
        match c with
        | ⟨0, _⟩ => exact (Nat.zero_add _).symm
        | ⟨1, _⟩ => exact Nat.add_comm _ _
      · intro c
        match c with
        | ⟨0, _⟩ => exact (Nat.zero_add _).symm
        | ⟨1, _⟩ => show a.val = 4080 + (k.val + 1); omega
    have e0 : extractStridedSlice S512x15 ![0, 0] (extractStridedSlice S512x16 ![0, 4080] (Host.sort S512x4096 1 (comparator_f32_d1 (F := Ideal)) x)
        slices_S512x4096_S512x16_0_4080) slices_S512x16_S512x15_0_0 (ix2 r k) = blockRow x r (order (blockRow x r) b) := by
      refine Eq.trans ?_ (sort_row x r b)
      refine (extractStridedSlice_apply _ _ _ (ix2 r k) (ix2 r ⟨k.val, by omega⟩ : S512x16.Idx) ?_).trans
        (extractStridedSlice_apply _ _ _ _ (ix2 r b : S512x4096.Idx) ?_)
      · intro c
        match c with
        | ⟨0, _⟩ => exact (Nat.zero_add _).symm
        | ⟨1, _⟩ => exact (Nat.zero_add _).symm
      · intro c
        match c with
        | ⟨0, _⟩ => exact (Nat.zero_add _).symm
        | ⟨1, _⟩ => exact hb
    have hk' : BitVec.ofBool (decide (blockRow x r (order (blockRow x r) b) < blockRow x r (order (blockRow x r) a))) = 1#1 := by
      rw [← e1, ← e0]; exact hk
    by_contra hn
    rw [decide_eq_false hn] at hk'
    exact absurd hk' (by decide)
  intro i j hij hj
  have h1 : descent (blockRow x r) ⟨i.val + 1, by omega⟩ < descent (blockRow x r) i :=
    hstep ⟨14 - i.val, by omega⟩ _ _ (by rw [Fin.val_rev]; simp only; omega) (by rw [Fin.val_rev]; simp only; omega)
  exact (descent_anti _ (show (⟨i.val + 1, by omega⟩ : Fin 4096) ≤ j from hij)).trans_lt h1

end Pre

end Cert.TopK

end
-- ==== Proof.Candidates.lean ====
/-
What a device's candidates are, at the extended reals. The rows a device works on are a stretch of its block of the argument; its
first candidates are the largest members of those rows; after two exchanges they are the largest members of the rows of four blocks
side by side.
-/
module

public import proofs.«01_k».proof.Proof.Proto
public import proofs.«01_k».proof.Proof.Rows
public import proofs.«01_k».proof.Proof.Sorting

@[expose] public section

set_option maxRecDepth 8000

noncomputable section

namespace Cert.TopK

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The block of the argument that device `c` starts with. -/
def block (c : Dev nD) : FVec Ideal S512x4096 .f32 := m ((c : Thread nD τ).loc main_arg0)

/-- The row of the block that is row `r` of the rows device `c` works on. -/
def ownRow (c : Dev nD) (r : Fin 128) : Fin 512 := ⟨128 * (c.val / 4) + r.val, by have := r.isLt; have : c.val < 16 := c.isLt; omega⟩

theorem staged (c : Dev nD) : xstg m ρ c = block m c := by
  have hz : (fun a => (win0_0.index (0 : Fin 1)) a * main_arg0.ty.shape.size a) = fun _ => 0 := funext fun a => by fin_cases a <;> decide
  exact Memref.read_access_unit_zero (Elt Ideal) main_arg0 hz (fun a => by fin_cases a <;> decide) _

theorem mine_apply (c : Dev nD) (r : Fin 128) (j : Fin 4096) : mine m ρ c (ix2 r j) = block m c (ix2 (ownRow c r) j) := by
  have hoff : ∀ a, k0_off1 c a = (![256 * (c.val / 8) + 128 * ((c.val / 4) % 2), 0] : Fin 2 → ℕ) a := fun a => congrFun (k0_off1_eq c) a
  have h0 : k0_off1 c 0 = 128 * (c.val / 4) := (hoff 0).trans (by show 256 * (c.val / 8) + 128 * ((c.val / 4) % 2) = _; omega)
  have h1 : k0_off1 c 1 = 0 := hoff 1
  refine Eq.trans ?_ (congrFun (staged m ρ c) (ix2 (ownRow c r) j))
  refine congrArg (xstg m ρ c) (funext fun a => Fin.ext ?_)
  fin_cases a
  · show k0_off1 c 0 + 1 * r.val = 128 * (c.val / 4) + r.val
    rw [h0]; omega
  · show k0_off1 c 1 + 1 * j.val = j.val
    rw [h1]; omega

theorem mine_row (c : Dev nD) (r : Fin 128) : row (mine m ρ c) r = blockRow (block m c) (ownRow c r) :=
  funext fun j => mine_apply m ρ c r j

/-- The members of row `r` of device `c`'s rows that are at least `θ`, counted. -/
def count (c : Dev nD) (r : Fin 128) (θ : EReal) : ℕ := atLeast (blockRow (block m c) (ownRow c r)) θ

theorem tops_cand0 (c : Dev nD) (h : Cert.Pre_top_distinct_KernelIdeal.fn (F := Ideal) (block m c) = fun _ => 1#1) (r : Fin 128) :
    Tops (count m c r) (row16 (cand0 m ρ c) r) := by
  have hp : row16 (cand0 m ρ c) r = fun k : Fin 16 => top (peels (blockRow (block m c) (ownRow c r)) k.val) := funext fun k => by
    show pick (mine m ρ c) (ix2 r k) = _
    rw [pick_row, mine_row]
  rw [hp]
  exact tops_peels (by omega) ((order (blockRow (block m c) (ownRow c r))).symm.trans Fin.revPerm)
    (eq_descent _) (descent_anti _) (descent_strict h (ownRow c r))

theorem tops_cand1 (hp : ∀ c, Cert.Pre_top_distinct_KernelIdeal.fn (F := Ideal) (block m c) = fun _ => 1#1) (c : Dev nD) (r : Fin 128) :
    Tops (fun θ => count m c r θ + count m (pr 0 c) r θ) (row16 (cand1 m ρ c) r) := by
  rw [show row16 (cand1 m ρ c) r = _ from fold16_row (cand0 m ρ c) (cand0 m ρ (pr 0 c)) r]
  exact tops_net (tops_cand0 m ρ c (hp c) r) (tops_cand0 m ρ (pr 0 c) (hp _) r)

theorem tops_cand2 (hp : ∀ c, Cert.Pre_top_distinct_KernelIdeal.fn (F := Ideal) (block m c) = fun _ => 1#1) (c : Dev nD) (r : Fin 128) :
    Tops (fun θ => (count m c r θ + count m (pr 0 c) r θ) + (count m (pr 1 c) r θ + count m (pr 0 (pr 1 c)) r θ)) (row16 (cand2 m ρ c) r) := by
  rw [show row16 (cand2 m ρ c) r = _ from fold16_row (cand1 m ρ c) (cand1 m ρ (pr 1 c)) r]
  exact tops_net (tops_cand1 m ρ hp c r) (tops_cand1 m ρ hp (pr 1 c) r)

end Cert.TopK

end
-- ==== Proof.Reference.lean ====
/-
What the reference computes, at the extended reals: entry `k` of a row of its result is the `k`-th largest member of that row of
the whole array. Its positions come from an ascending sort of the negated rows, so they are in range, and the wrap of negative
positions and the replacement of those out of range change nothing.
-/
module

public import proofs.«01_k».proof.Proof.Sorting
public import proofs.«01_k».proof.Proof.Gen.ReferenceIdeal.Run
public import Idealize.ShloMosaic.Lib.ReduceAll
public import Idealize.ShloMosaic.Lib.Pipeline.Value

@[expose] public section

set_option maxRecDepth 8000

noncomputable section

namespace Cert.TopK

open Idealize.ShloMosaic Idealize.ShloMosaic.ValueIdx Idealize.SL.Sem

/-! ## Words that hold a position -/

theorem position_toInt {n : ℕ} (h : n < 16384) : (BitVec.ofNat 32 n).toInt = n := by
  rw [BitVec.toInt_eq_toNat_of_lt (by rw [BitVec.toNat_ofNat]; omega), BitVec.toNat_ofNat]
  omega

theorem position_nonneg {n : ℕ} (h : n < 16384) : IntOp.cmpi .slt (BitVec.ofNat 32 n) 0#32 = 0#1 := by
  have : (BitVec.ofNat 32 n).slt 0#32 = false := decide_eq_false (by rw [position_toInt h]; simp)
  show BitVec.ofBool ((BitVec.ofNat 32 n).slt 0#32) = 0#1
  rw [this]; rfl

theorem position_inside {n : ℕ} (h : n < 16384) :
    IntOp.andi (IntOp.cmpi .sge (BitVec.ofNat 32 n) 0#32) (IntOp.cmpi .sle (BitVec.ofNat 32 n) 16383#32) = 1#1 := by
  have h1 : (0#32).sle (BitVec.ofNat 32 n) = true := decide_eq_true (by rw [position_toInt h]; simp)
  have h2 : (BitVec.ofNat 32 n).sle 16383#32 = true := decide_eq_true (by
    rw [position_toInt h, show (16383#32 : BitVec 32) = BitVec.ofNat 32 16383 from rfl, position_toInt (by omega)]; omega)
  show IntOp.andi (BitVec.ofBool ((0#32).sle (BitVec.ofNat 32 n))) (BitVec.ofBool ((BitVec.ofNat 32 n).sle 16383#32)) = 1#1
  rw [h1, h2]; rfl

/-! ## Taking members of the own row -/

section Take

variable {R N C : ℕ}

/-- One position per entry of the result, into the same row of the operand. -/
abbrev rowTake (R N C : ℕ) (wf : GatherDims.WF ⟨2, ![R, N]⟩ ⟨3, ![R, C, 1]⟩ ⟨2, ![R, C]⟩ [] [1] [0] [1] [0] 2 ![1, 1]) :
    GatherDims ⟨2, ![R, N]⟩ ⟨3, ![R, C, 1]⟩ ⟨2, ![R, C]⟩ where
  offsetDims := []
  collapsedSliceDims := [1]
  operandBatchingDims := [0]
  startIndicesBatchingDims := [0]
  startIndexMap := [1]
  indexVectorDim := 2
  sliceSizes := ![1, 1]
  wf := wf

theorem rowTake_start (wf : GatherDims.WF ⟨2, ![R, N]⟩ ⟨3, ![R, C, 1]⟩ ⟨2, ![R, C]⟩ [] [1] [0] [1] [0] 2 ![1, 1]) {w : ℕ}
    (idx : IVec ⟨3, ![R, C, 1]⟩ w) (r : Fin R) (k : Fin C) :
    (rowTake R N C wf).start (ix2 r k) idx 1 = min (idx (ix3 r k (0 : Fin 1))).toInt.toNat (N - 1) := by
  have hmem : (1 : Fin 2) ∈ (rowTake R N C wf).startIndexMap := List.mem_singleton.mpr rfl
  have hsi : (rowTake R N C wf).siIdx (ix2 r k) ⟨List.idxOf (1 : Fin 2) (rowTake R N C wf).startIndexMap, List.idxOf_lt_length_iff.2 hmem⟩
      = ix3 r k (0 : Fin 1) := by
    funext b
    match b with
    | ⟨0, _⟩ => exact Fin.ext rfl
    | ⟨1, _⟩ => exact Fin.ext rfl
    | ⟨2, _⟩ => exact Fin.ext rfl
  unfold GatherDims.start
  rw [dif_pos hmem, hsi]
  rfl

theorem rowTake_batch (wf : GatherDims.WF ⟨2, ![R, N]⟩ ⟨3, ![R, C, 1]⟩ ⟨2, ![R, C]⟩ [] [1] [0] [1] [0] 2 ![1, 1]) (r : Fin R) (k : Fin C) :
    (rowTake R N C wf).batchCoord (ix2 r k) 0 = r.val := by
  unfold GatherDims.batchCoord
  rw [dif_pos (List.mem_singleton.mpr rfl)]
  rfl

/-- The gather read at an index whose position is `n`, in range. -/
theorem rowTake_apply {α : Type} (wf : GatherDims.WF ⟨2, ![R, N]⟩ ⟨3, ![R, C, 1]⟩ ⟨2, ![R, C]⟩ [] [1] [0] [1] [0] 2 ![1, 1]) {w : ℕ}
    (x : (⟨2, ![R, N]⟩ : Shape).Idx → α) (idx : IVec ⟨3, ![R, C, 1]⟩ w) (r : Fin R) (k : Fin C) (n : Fin N)
    (hn : (idx (ix3 r k (0 : Fin 1))).toInt = n.val) : Host.gather (rowTake R N C wf) x idx (ix2 r k) = x (ix2 r n) := by
  unfold Host.gather
  refine congrArg x (funext fun a => Fin.ext ?_)
  show (rowTake R N C wf).start (ix2 r k) idx a + (rowTake R N C wf).batchCoord (ix2 r k) a + (rowTake R N C wf).offCoord (ix2 r k) a = _
  have ha : a = 0 ∨ a = 1 := by
    match a with
    | ⟨0, _⟩ => exact Or.inl rfl
    | ⟨1, _⟩ => exact Or.inr rfl
  rcases ha with rfl | rfl
  · rw [GatherDims.start_batching _ _ _ _ (List.mem_singleton.mpr rfl), rowTake_batch,
      GatherDims.offCoord_eq_zero _ _ _ (fun h => ((GatherDims.mem_sKept _ _).mp h).2 (List.mem_singleton.mpr rfl)), Nat.zero_add]
    rfl
  · rw [rowTake_start, hn, GatherDims.batchCoord_eq_zero _ _ _ (by simp),
      GatherDims.offCoord_eq_zero _ _ _ (fun h => ((GatherDims.mem_sKept _ _).mp h).1 (List.mem_singleton.mpr rfl))]
    have := n.isLt
    show min (Int.toNat (n.val : ℤ)) (N - 1) + 0 + 0 = n.val
    omega

end Take

/-! ## The reference's result -/

section Out

open Cert.ReferenceIdeal Cert.ReferenceIdeal.Gen

/-- A row of the whole array. -/
def wholeRow (x : FVec Ideal S512x16384 .f32) (r : Fin 512) : Fin 16384 → EReal := fun j => x (ix2 r j)

/-- The positions the reference sorts out, the first sixteen of every row. -/
def positions (x : FVec Ideal S512x16384 .f32) : IVec S512x16 32 :=
  extractStridedSlice S512x16 ![0, 0] ((Host.sort2 S512x16384 1 (comparator_f32_i32_d1 (F := Ideal)) (Host.negf x) (iotaInDim S512x16384 32 1)).2)
    slices_S512x16384_S512x16_0_0

/-- The positions as the gather takes them, negative ones wrapped. -/
def starts (x : FVec Ideal S512x16384 .f32) : IVec S512x16x1 32 :=
  shapeCast S512x16x1 (select (cmpi .slt (positions x) (broadcastInDim S512x16 ![] bcast_S_S512x16 (constantI S_ 32 0#32)))
    (addi (positions x) (broadcastInDim S512x16 ![] bcast_S_S512x16 (constantI S_ 32 16384#32))) (positions x)) shapeCasts_S512x16_S512x16x1

/-- The reference's result. -/
def refOut (x : FVec Ideal S512x16384 .f32) : FVec Ideal S512x16 .f32 :=
  select (Host.reduce IntOp.andi (andi (cmpi .sge (starts x) (broadcastInDim S512x16x1 ![] bcast_S_S512x16x1 (constantI S_ 32 0#32)))
      (cmpi .sle (starts x) (broadcastInDim S512x16x1 ![0, 1, 2] bcast_S1x1x1_S512x16x1_0_1_2 (broadcastInDim S1x1x1 ![2] bcast_S1_S1x1x1_2 (constantI S1 32 16383#32)))))
      (constantI S_ 1 1#1) reducesTo_S512x16x1_S512x16_d2 h_S_)
    (Host.gather gather_S512x16384_S512x16x1_S512x16_n_1_0_0_1_2_11 x (starts x))
    (broadcastInDim S512x16 ![] bcast_S_S512x16 (constant S_ .f32 0x7FC00000#32))

/-- The row's members in the order of the sort. -/
def source (x : FVec Ideal S512x16384 .f32) (r : Fin 512) (k : Fin 16) : Fin 16384 :=
  order (fun j => -(wholeRow x r j)) (k.castLE (by omega))

theorem positions_apply (x : FVec Ideal S512x16384 .f32) (r : Fin 512) (k : Fin 16) :
    positions x (ix2 r k) = BitVec.ofNat 32 (source x r k).val := by
  refine (extractStridedSlice_apply _ _ _ (ix2 r k) (ix2 r (k.castLE (by omega)) : S512x16384.Idx) fun c => ?_).trans ?_
  · match c with
    | ⟨0, _⟩ => exact (Nat.zero_add _).symm
    | ⟨1, _⟩ => exact (Nat.zero_add _).symm
  · exact carried_row (comparator_f32_i32_d1 (F := Ideal)) (fun _ _ => before_iff _ _ _ _) (Host.negf x) (iotaInDim S512x16384 32 1) r (k.castLE (by omega))

theorem starts_apply (x : FVec Ideal S512x16384 .f32) (r : Fin 512) (k : Fin 16) (u : Fin 1) :
    starts x (ix3 r k u) = BitVec.ofNat 32 (source x r k).val := by
  refine (shapeCast_apply _ shapeCasts_S512x16_S512x16x1 (ix3 r k u) (ix2 r k) ?_).trans ?_
  · rw [Shape.rowMajor_val_two, Shape.rowMajor_val_three]
    have := u.isLt
    show r.val * 16 + k.val = (r.val * 16 + k.val) * 1 + u.val
    omega
  · show Scalar.select (IntOp.cmpi .slt (positions x (ix2 r k)) 0#32) (IntOp.addi (positions x (ix2 r k)) 16384#32) (positions x (ix2 r k)) = _
    rw [positions_apply, position_nonneg (source x r k).isLt]
    exact select_zero _ _

theorem refOut_apply (x : FVec Ideal S512x16384 .f32) (r : Fin 512) (k : Fin 16) : refOut x (ix2 r k) = wholeRow x r (source x r k) := by
  have hin : Host.reduce IntOp.andi (andi (cmpi .sge (starts x) (broadcastInDim S512x16x1 ![] bcast_S_S512x16x1 (constantI S_ 32 0#32)))
      (cmpi .sle (starts x) (broadcastInDim S512x16x1 ![0, 1, 2] bcast_S1x1x1_S512x16x1_0_1_2 (broadcastInDim S1x1x1 ![2] bcast_S1_S1x1x1_2 (constantI S1 32 16383#32)))))
      (constantI S_ 1 1#1) reducesTo_S512x16x1_S512x16_d2 h_S_ (ix2 r k) = 1#1 :=
    Host.reduce_andi_one _ _ _ _ _ rfl fun i => by
      have hs : starts x i = BitVec.ofNat 32 (source x (i 0) (i 1)).val := (congrArg (starts x) (eq_ix3 i)).trans (starts_apply x (i 0) (i 1) (i 2))
      show IntOp.andi (IntOp.cmpi .sge (starts x i) 0#32) (IntOp.cmpi .sle (starts x i) 16383#32) = 1#1
      rw [hs]
      exact position_inside (source x _ _).isLt
  refine (select_apply _ _ _ (ix2 r k)).trans ?_
  rw [hin]
  refine (select_one _ _).trans ?_
  exact rowTake_apply gather_S512x16384_S512x16x1_S512x16_n_1_0_0_1_2_11_wf x (starts x) r k (source x r k)
    (by rw [starts_apply, position_toInt (source x r k).isLt])

/-- So a row of the reference's result is the top sixteen of the row of the whole array. -/
theorem tops_ref (x : FVec Ideal S512x16384 .f32) (r : Fin 512) : Tops (atLeast (wholeRow x r)) fun k => refOut x (ix2 r k) := by
  have ht : Antitone fun k => wholeRow x r (order (fun j => -(wholeRow x r j)) k) := fun i j hij =>
    EReal.neg_le_neg_iff.1 (order_mono (fun j => -(wholeRow x r j)) hij)
  have hc : atLeast (wholeRow x r) = atLeast fun k => wholeRow x r (order (fun j => -(wholeRow x r j)) k) :=
    funext fun θ => (atLeast_perm (order fun j => -(wholeRow x r j)) (wholeRow x r) θ).symm
  rw [hc, show (fun k => refOut x (ix2 r k)) = fun k : Fin 16 => wholeRow x r (order (fun j => -(wholeRow x r j)) (k.castLE (by omega))) from
    funext fun k => refOut_apply x r k]
  exact (tops_antitone ht).head _

end Out

end Cert.TopK

end
-- ==== Proof.Algebraic.lean ====
/-
The kernel's results are the reference's. A device's block is a quarter of the columns of the whole array; the four devices that
exchange candidates hold the four quarters, so their counts add up to the count over the whole row, and both programs' results are
the largest members of that row.
-/
module

public import proofs.«01_k».proof.Proof.Candidates
public import proofs.«01_k».proof.Proof.Reference
public import proofs.«01_k».proof.Proof.Launch
public import proofs.«01_k».proof.Defs

@[expose] public section

set_option maxRecDepth 8000

noncomputable section

namespace Cert.TopK

open Cert.KernelIdeal Cert.KernelIdeal.Gen
open Idealize.ShloMosaic Idealize.ShloMosaic.TcCoe Idealize.ShloMosaic.ValueIdx Idealize.SL.Sem

/-! ## A row in stretches -/

/-- The members of stretch `z` of a row, counted. -/
def stretchCount {q n N : ℕ} (hN : q * n = N) (f : Fin N → EReal) (z : Fin q) (θ : EReal) : ℕ :=
  atLeast (fun j : Fin n => f ((finProdFinEquiv (z, j)).cast hN)) θ

theorem atLeast_stretches {q n N : ℕ} (hN : q * n = N) (f : Fin N → EReal) (θ : EReal) :
    atLeast f θ = ∑ z, stretchCount hN f z θ := by
  rw [← atLeast_perm (finProdFinEquiv.trans (finCongr hN)) f θ, atLeast_blocks]
  rfl

/-- The quarter of the columns device `c` holds. -/
def quarter (c : Dev nD) : Fin 4 := ⟨c.val % 4, Nat.mod_lt _ (by decide)⟩

/-- The four devices that exchange candidates hold the four quarters. -/
theorem quarters (c : Dev nD) (g : Fin 4 → ℕ) :
    (g (quarter c) + g (quarter (pr 0 c))) + (g (quarter (pr 1 c)) + g (quarter (pr 0 (pr 1 c)))) = ∑ z, g z := by
  have h : ∀ c : Dev nD,
      (quarter c = 0 ∧ quarter (pr 0 c) = 1 ∧ quarter (pr 1 c) = 2 ∧ quarter (pr 0 (pr 1 c)) = 3)
      ∨ (quarter c = 1 ∧ quarter (pr 0 c) = 0 ∧ quarter (pr 1 c) = 3 ∧ quarter (pr 0 (pr 1 c)) = 2)
      ∨ (quarter c = 2 ∧ quarter (pr 0 c) = 3 ∧ quarter (pr 1 c) = 0 ∧ quarter (pr 0 (pr 1 c)) = 1)
      ∨ (quarter c = 3 ∧ quarter (pr 0 c) = 2 ∧ quarter (pr 1 c) = 1 ∧ quarter (pr 0 (pr 1 c)) = 0) := by decide +kernel
  rw [Fin.sum_univ_four]
  rcases h c with ⟨h0, h1, h2, h3⟩ | ⟨h0, h1, h2, h3⟩ | ⟨h0, h1, h2, h3⟩ | ⟨h0, h1, h2, h3⟩ <;> rw [h0, h1, h2, h3] <;> omega

theorem same_rows : ∀ c : Dev nD, (pr 0 c).val / 4 = c.val / 4 ∧ (pr 1 c).val / 4 = c.val / 4 ∧ (pr 0 (pr 1 c)).val / 4 = c.val / 4 := by
  decide +kernel

theorem ownRow_eq {c c' : Dev nD} (h : c'.val / 4 = c.val / 4) (r : Fin 128) : ownRow c' r = ownRow c r :=
  Fin.ext (by show 128 * (c'.val / 4) + r.val = 128 * (c.val / 4) + r.val; rw [h])

/-! ## The blocks in the whole array -/

section Whole

variable (m : (ℓ : Loc nD τ sig) → Buf (Elt Ideal) ℓ) (ρ : Dev nD → PrngReg) (x : FVec Ideal Cert.ReferenceIdeal.S512x16384 .f32)
  (hx : ∀ c : Dev nD, block m c = Layout.blockN ⟨2, ![512, 4096]⟩ ⟨2, ![512, 16384]⟩ (Layout.meshBlock [2, 2, 4] ![[], [2]] c) x)

include hx

theorem block_row (c : Dev nD) (R : Fin 512) (j : Fin 4096) :
    blockRow (block m c) R j = wholeRow x R ((finProdFinEquiv (quarter c, j)).cast (by decide : 4 * 4096 = 16384)) := by
  refine (congrFun (hx c) (ix2 R j)).trans (congrArg x (funext fun a => Fin.ext ?_))
  fin_cases a
  · show 0 * 512 + R.val = R.val
    omega
  · show ((c.val / 1) % 4 * 1 + 0) * 4096 + j.val = j.val + 4096 * (c.val % 4)
    omega

theorem count_eq (c : Dev nD) (r : Fin 128) (θ : EReal) :
    count m c r θ = stretchCount (by decide : 4 * 4096 = 16384) (wholeRow x (ownRow c r)) (quarter c) θ :=
  congrArg (fun f => atLeast f θ) (funext fun j => block_row m x hx c (ownRow c r) j)

theorem counts (c : Dev nD) (r : Fin 128) (θ : EReal) :
    (count m c r θ + count m (pr 0 c) r θ) + (count m (pr 1 c) r θ + count m (pr 0 (pr 1 c)) r θ) = atLeast (wholeRow x (ownRow c r)) θ := by
  obtain ⟨h0, h1, h2⟩ := same_rows c
  rw [count_eq m x hx, count_eq m x hx, count_eq m x hx, count_eq m x hx, ownRow_eq h0, ownRow_eq h1, ownRow_eq h2,
    atLeast_stretches (by decide : 4 * 4096 = 16384) (wholeRow x (ownRow c r)) θ]
  exact quarters c fun z => stretchCount (by decide : 4 * 4096 = 16384) (wholeRow x (ownRow c r)) z θ

theorem cand2_eq (hp : ∀ c, Cert.Pre_top_distinct_KernelIdeal.fn (F := Ideal) (block m c) = fun _ => 1#1) (c : Dev nD) (r : Fin 128) (k : Fin 16) :
    cand2 m ρ c (ix2 r k) = refOut x (ix2 (ownRow c r) k) := by
  have h := tops_cand2 m ρ hp c r
  rw [show (fun θ => (count m c r θ + count m (pr 0 c) r θ) + (count m (pr 1 c) r θ + count m (pr 0 (pr 1 c)) r θ)) = atLeast (wholeRow x (ownRow c r)) from
    funext fun θ => counts m x hx c r θ] at h
  exact congrFun (h.unique (tops_ref x (ownRow c r))) k

theorem result_eq (hp : ∀ c, Cert.Pre_top_distinct_KernelIdeal.fn (F := Ideal) (block m c) = fun _ => 1#1) (c : Dev nD) : oFull m ρ c = refOut x := by
  funext i
  have hr : ownRow (filler c (i 0)) (⟨(i 0).val % 128, Nat.mod_lt _ (by decide)⟩ : Fin 128) = i 0 := Fin.ext (by
    show 128 * ((4 * ((i 0).val / 128) + c.val % 4) / 4) + (i 0).val % 128 = (i 0).val
    omega)
  refine (cand2_eq m ρ x hx hp (filler c (i 0)) (⟨(i 0).val % 128, Nat.mod_lt _ (by decide)⟩ : Fin 128) (i 1)).trans ?_
  exact (congrArg (fun R : Fin 512 => refOut x (ix2 R (i 1))) hr).trans (congrArg (refOut x) (eq_ix2 i).symm)

end Whole

/-! ## The claim -/

theorem algebraic : Cert.algebraic_KernelIdeal_ReferenceIdeal_pre_top_distinct_KernelIdeal (hKernelIdeal := Cert.KernelIdeal.Gen.facts)
    (hReferenceIdeal := Cert.ReferenceIdeal.Gen.facts) (hPre_top_distinct_KernelIdeal := Cert.Pre_top_distinct_KernelIdeal.Gen.facts) := by
  intro m g m' g' hp hx
  refine ⟨refOut (m' (((0 : Dev Cert.ReferenceIdeal.nD).tc : Thread Cert.ReferenceIdeal.nD Cert.ReferenceIdeal.τ).loc Cert.ReferenceIdeal.main_arg0)), ?_, ?_⟩
  · exact (θ_run (Cert.KernelIdeal.defs (F := Ideal)) _ _).mono
      (fun _ h c => ⟨(h.1 c).1.trans (result_eq m g _ hx hp c), (h.1 c).2⟩) (run_main m g)
  · exact (θ_run (Cert.ReferenceIdeal.defs (F := Ideal)) _ _).mono
      (fun _ h => ⟨(h 0).1, (h 0).2⟩) (Cert.ReferenceIdeal.Value.run (F := Ideal) m' g')

end Cert.TopK

end
-- ==== Proof.lean ====
/- The certificate: the run of each program and what its results are, put together from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_top_distinct_KernelIdeal
public import proofs.«01_k».proof.Proof.Gen.Pre_top_distinct_ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Pre_top_distinct_KernelIdeal.Gen.facts, Cert.Pre_top_distinct_ReferenceIdeal.Gen.facts,
    Cert.TopK.frame_kernel, Cert.TopK.frame_ideal, fun m g _ => Cert.TopK.frame_ideal m g trivial,
    Cert.TopK.frame_reference, fun m g _ => Cert.TopK.frame_reference m g trivial, trivial, Cert.TopK.algebraic⟩

end Cert.Proof

end
